-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sane_boxes [hPre_sane_boxes : Cert.Pre_sane_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_sane_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sane_boxes [hPre_sane_boxes : Cert.Pre_sane_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sane_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sane_boxes [hKernelIdeal : Cert.KernelIdeal.Facts] [hPre_sane_boxes : Cert.Pre_sane_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sane_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sane_boxes [hReferenceIdeal : Cert.ReferenceIdeal.Facts] [hPre_sane_boxes : Cert.Pre_sane_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sane_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_sane_boxes [hKernelIdeal : Cert.KernelIdeal.Facts] [hReferenceIdeal : Cert.ReferenceIdeal.Facts] [hPre_sane_boxes : Cert.Pre_sane_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sane_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sane_boxes : Cert.Pre_sane_boxes.Facts),
    quiescent_Kernel (hKernel := hKernel)
    ∧ quiescent_KernelIdeal (hKernelIdeal := hKernelIdeal)
    ∧ quiescent_KernelIdeal_pre_sane_boxes (hKernelIdeal := hKernelIdeal) (hPre_sane_boxes := hPre_sane_boxes)
    ∧ quiescent_ReferenceIdeal (hReferenceIdeal := hReferenceIdeal)
    ∧ quiescent_ReferenceIdeal_pre_sane_boxes (hReferenceIdeal := hReferenceIdeal) (hPre_sane_boxes := hPre_sane_boxes)
    ∧ preserves_Kernel_KernelIdeal
    ∧ algebraic_KernelIdeal_ReferenceIdeal_pre_sane_boxes (hKernelIdeal := hKernelIdeal) (hReferenceIdeal := hReferenceIdeal) (hPre_sane_boxes := hPre_sane_boxes)
-- ==== Pre_sane_boxes.lean ====
abbrev S4x50000x80 : Shape := ⟨3, ![4, 50000, 80]⟩
abbrev S4x50000x4 : Shape := ⟨3, ![4, 50000, 4]⟩
abbrev S4x32x4 : Shape := ⟨3, ![4, 32, 4]⟩
abbrev S4x32 : Shape := ⟨2, ![4, 32]⟩
abbrev S_ : Shape := ⟨0, ![]⟩
abbrev S4x50000x2 : Shape := ⟨3, ![4, 50000, 2]⟩
abbrev S4x32x2 : Shape := ⟨3, ![4, 32, 2]⟩

class Facts : Prop where
  bcast_S_S4x50000x80 : S_.BroadcastsInDim S4x50000x80 (![] : Fin 0 → Fin S4x50000x80.rank)
  reducesTo_S4x50000x80_S_d0_1_2 : S4x50000x80.ReducesTo [0, 1, 2] S_
  h_S_ : 0 < S_.numel
  bcast_S_S4x50000x4 : S_.BroadcastsInDim S4x50000x4 (![] : Fin 0 → Fin S4x50000x4.rank)
  reducesTo_S4x50000x4_S_d0_1_2 : S4x50000x4.ReducesTo [0, 1, 2] S_
  bcast_S_S4x32x4 : S_.BroadcastsInDim S4x32x4 (![] : Fin 0 → Fin S4x32x4.rank)
  reducesTo_S4x32x4_S_d0_1_2 : S4x32x4.ReducesTo [0, 1, 2] S_
  slices_S4x50000x4_S4x50000x2_0_0_2 : S4x50000x4.Slices ![0, 0, 2] S4x50000x2
  bcast_S_S4x50000x2 : S_.BroadcastsInDim S4x50000x2 (![] : Fin 0 → Fin S4x50000x2.rank)
  reducesTo_S4x50000x2_S_d0_1_2 : S4x50000x2.ReducesTo [0, 1, 2] S_
  slices_S4x32x4_S4x32x2_0_0_2 : S4x32x4.Slices ![0, 0, 2] S4x32x2
  bcast_S_S4x32x2 : S_.BroadcastsInDim S4x32x2 (![] : Fin 0 → Fin S4x32x2.rank)
  reducesTo_S4x32x2_S_d0_1_2 : S4x32x2.ReducesTo [0, 1, 2] S_

variable [Facts]

def fn_part1 {F : FTy → Type} [FloatOps F] (main_arg3 : FVec F S4x32x4 .f32) (main_v13 : IVec S_ 1) (main_v16 : IVec S4x50000x2 1) : IVec S_ 1 :=
  let main_c_5 : IVec S_ 1 := constantI S_ 1 1#1
  let main_v17 : IVec S_ 1 := (fun x v => Host.reduce IntOp.andi x v reducesTo_S4x50000x2_S_d0_1_2 h_S_) main_v16 main_c_5
  let main_v18 : IVec S_ 1 := andi main_v13 main_v17
  let main_v19 : FVec F S4x32x2 .f32 := (extractStridedSlice S4x32x2 ![0, 0, 2] · slices_S4x32x4_S4x32x2_0_0_2) main_arg3
  let main_cst_6 : FVec F S_ .f32 := constant S_ .f32 0x00000000#32
  let main_v20 : FVec F S4x32x2 .f32 := broadcastInDim S4x32x2 ![] bcast_S_S4x32x2 main_cst_6
  let main_v21 : IVec S4x32x2 1 := cmpf .oge main_v19 main_v20
  let main_c_7 : IVec S_ 1 := constantI S_ 1 1#1
  let main_v22 : IVec S_ 1 := (fun x v => Host.reduce IntOp.andi x v reducesTo_S4x32x2_S_d0_1_2 h_S_) main_v21 main_c_7
  let main_v23 : IVec S_ 1 := andi main_v18 main_v22
  main_v23

def fn {F : FTy → Type} [FloatOps F] (main_arg0 : FVec F S4x50000x80 .f32) (main_arg1 : FVec F S4x50000x4 .f32) (main_arg2 : FVec F S4x50000x4 .f32) (main_arg3 : FVec F S4x32x4 .f32) (main_arg4 : IVec S4x32 32) : IVec S_ 1 :=
  let main_v0 : FVec F S4x50000x80 .f32 := Host.absf main_arg0
  let main_cst : FVec F S_ .f32 := constant S_ .f32 0x7F800000#32
  let main_v1 : FVec F S4x50000x80 .f32 := broadcastInDim S4x50000x80 ![] bcast_S_S4x50000x80 main_cst
  let main_v2 : IVec S4x50000x80 1 := cmpf .olt main_v0 main_v1
  let main_c : IVec S_ 1 := constantI S_ 1 1#1
  let main_v3 : IVec S_ 1 := (fun x v => Host.reduce IntOp.andi x v reducesTo_S4x50000x80_S_d0_1_2 h_S_) main_v2 main_c
  let main_v4 : FVec F S4x50000x4 .f32 := Host.absf main_arg2
  let main_cst_0 : FVec F S_ .f32 := constant S_ .f32 0x7F800000#32
  let main_v5 : FVec F S4x50000x4 .f32 := broadcastInDim S4x50000x4 ![] bcast_S_S4x50000x4 main_cst_0
  let main_v6 : IVec S4x50000x4 1 := cmpf .olt main_v4 main_v5
  let main_c_1 : IVec S_ 1 := constantI S_ 1 1#1
  let main_v7 : IVec S_ 1 := (fun x v => Host.reduce IntOp.andi x v reducesTo_S4x50000x4_S_d0_1_2 h_S_) main_v6 main_c_1
  let main_v8 : IVec S_ 1 := andi main_v3 main_v7
  let main_v9 : FVec F S4x32x4 .f32 := Host.absf main_arg3
  let main_cst_2 : FVec F S_ .f32 := constant S_ .f32 0x7F800000#32
  let main_v10 : FVec F S4x32x4 .f32 := broadcastInDim S4x32x4 ![] bcast_S_S4x32x4 main_cst_2
  let main_v11 : IVec S4x32x4 1 := cmpf .olt main_v9 main_v10
  let main_c_3 : IVec S_ 1 := constantI S_ 1 1#1
  let main_v12 : IVec S_ 1 := (fun x v => Host.reduce IntOp.andi x v reducesTo_S4x32x4_S_d0_1_2 h_S_) main_v11 main_c_3
  let main_v13 : IVec S_ 1 := andi main_v8 main_v12
  let main_v14 : FVec F S4x50000x2 .f32 := (extractStridedSlice S4x50000x2 ![0, 0, 2] · slices_S4x50000x4_S4x50000x2_0_0_2) main_arg2
  let main_cst_4 : FVec F S_ .f32 := constant S_ .f32 0x3C23D70A#32
  let main_v15 : FVec F S4x50000x2 .f32 := broadcastInDim S4x50000x2 ![] bcast_S_S4x50000x2 main_cst_4
  let main_v16 : IVec S4x50000x2 1 := cmpf .oge main_v14 main_v15
  fn_part1 (F := F) main_arg3 main_v13 main_v16
-- ==== Kernel.lean ====
abbrev S4x50000x80 : Shape := ⟨3, ![4, 50000, 80]⟩
abbrev S4x50000x4 : Shape := ⟨3, ![4, 50000, 4]⟩
abbrev S4x32x4 : Shape := ⟨3, ![4, 32, 4]⟩
abbrev S4x32 : Shape := ⟨2, ![4, 32]⟩
abbrev S4x5x10000x4 : Shape := ⟨4, ![4, 5, 10000, 4]⟩
abbrev S4x5x4x10000 : Shape := ⟨4, ![4, 5, 4, 10000]⟩
abbrev S4x4x32 : Shape := ⟨3, ![4, 4, 32]⟩
abbrev S4x32x1 : Shape := ⟨3, ![4, 32, 1]⟩
abbrev S2 : Shape := ⟨1, ![2]⟩
abbrev S1x1x4x10000 : Shape := ⟨4, ![1, 1, 4, 10000]⟩
abbrev S1x32x4 : Shape := ⟨3, ![1, 32, 4]⟩
abbrev S1x4x32 : Shape := ⟨3, ![1, 4, 32]⟩
abbrev S1x32x1 : Shape := ⟨3, ![1, 32, 1]⟩
abbrev S3 : Shape := ⟨1, ![3]⟩
abbrev S2x10000x80 : Shape := ⟨3, ![2, 10000, 80]⟩
abbrev S1 : Shape := ⟨1, ![1]⟩
abbrev S_ : Shape := ⟨0, ![]⟩
abbrev S1x10000x80 : Shape := ⟨3, ![1, 10000, 80]⟩
abbrev S10000x80 : Shape := ⟨2, ![10000, 80]⟩
abbrev S4x10000 : Shape := ⟨2, ![4, 10000]⟩
abbrev S1x10000 : Shape := ⟨2, ![1, 10000]⟩
abbrev S32x4 : Shape := ⟨2, ![32, 4]⟩
abbrev S32x1 : Shape := ⟨2, ![32, 1]⟩
abbrev S32x10000 : Shape := ⟨2, ![32, 10000]⟩
abbrev S10000 : Shape := ⟨1, ![10000]⟩
abbrev S1x1x10000 : Shape := ⟨3, ![1, 1, 10000]⟩
abbrev S1x1x1 : Shape := ⟨3, ![1, 1, 1]⟩
abbrev S1x80 : Shape := ⟨2, ![1, 80]⟩
abbrev S1x1x80 : Shape := ⟨3, ![1, 1, 80]⟩
abbrev S32x80 : Shape := ⟨2, ![32, 80]⟩
abbrev S1x32x80 : Shape := ⟨3, ![1, 32, 80]⟩

abbrev nBuf : Space → Nat
  | .hbm => 13
  | .vmem => 11
  | .smem => 2
  | _ => 0

abbrev bufTy : (tb : Table) → Fin (tcTables nBuf tb) → BufTy
  | .hbm, ⟨0, _⟩ => ⟨S4x50000x80, .f32⟩
  | .hbm, ⟨1, _⟩ => ⟨S4x50000x4, .f32⟩
  | .hbm, ⟨2, _⟩ => ⟨S4x50000x4, .f32⟩
  | .hbm, ⟨3, _⟩ => ⟨S4x32x4, .f32⟩
  | .hbm, ⟨4, _⟩ => ⟨S4x32, .i32⟩
  | .hbm, ⟨5, _⟩ => ⟨S4x5x10000x4, .f32⟩
  | .hbm, ⟨6, _⟩ => ⟨S4x5x4x10000, .f32⟩
  | .hbm, ⟨7, _⟩ => ⟨S4x5x10000x4, .f32⟩
  | .hbm, ⟨8, _⟩ => ⟨S4x5x4x10000, .f32⟩
  | .hbm, ⟨9, _⟩ => ⟨S4x4x32, .f32⟩
  | .hbm, ⟨10, _⟩ => ⟨S4x32, .f32⟩
  | .hbm, ⟨11, _⟩ => ⟨S4x32x1, .f32⟩
  | .hbm, ⟨12, _⟩ => ⟨S2, .f32⟩
  | .local _ .vmem, ⟨0, _⟩ => ⟨S1x1x4x10000, .f32⟩
  | .local _ .vmem, ⟨1, _⟩ => ⟨S1x1x4x10000, .f32⟩
  | .local _ .vmem, ⟨2, _⟩ => ⟨S1x1x4x10000, .f32⟩
  | .local _ .vmem, ⟨3, _⟩ => ⟨S1x1x4x10000, .f32⟩
  | .local _ .vmem, ⟨4, _⟩ => ⟨S1x32x4, .f32⟩
  | .local _ .vmem, ⟨5, _⟩ => ⟨S1x32x4, .f32⟩
  | .local _ .vmem, ⟨6, _⟩ => ⟨S1x4x32, .f32⟩
  | .local _ .vmem, ⟨7, _⟩ => ⟨S1x4x32, .f32⟩
  | .local _ .vmem, ⟨8, _⟩ => ⟨S1x32x1, .f32⟩
  | .local _ .vmem, ⟨9, _⟩ => ⟨S1x32x1, .f32⟩
  | .local _ .vmem, ⟨10, _⟩ => ⟨S2x10000x80, .f32⟩
  | .local _ .smem, ⟨0, _⟩ => ⟨S2, .f32⟩
  | .local _ .smem, ⟨1, _⟩ => ⟨S3, .f32⟩
  | _, _ => ⟨S4x50000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch1 : Ref sig .tc := ⟨.vmem, 10, rfl⟩
abbrev cc0_stg5_0 : Ref sig .tc := ⟨.smem, 0, rfl⟩
abbrev cc0_scratch0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![4, 5], ![false, false]⟩

def k0_cond3 (i : grid0.Coords) : BitVec 1 :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c19_i32 : BitVec 32 := 19#32
  let v10 : BitVec 1 := Scalar.cmpi .slt v1 c19_i32
  let v11 : BitVec 32 := Scalar.extui v10
  let c0_i32_3 : BitVec 32 := 0#32
  let v12 : BitVec 1 := Scalar.cmpi .ne v11 c0_i32_3
  v12

def k0_off1 (i : grid0.Coords) : Fin 1 → Nat :=
  let c1_i32 : BitVec 32 := 1#32
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v2 : BitVec 32 := Scalar.remsi v1 c2_i32
  let v3 : BitVec 32 := Scalar.subi c1_i32 v2
  ![v3.toNat]
def k0_off2 (i : grid0.Coords) : Fin 3 → Nat :=
  let c1_i32 : BitVec 32 := 1#32
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v2 : BitVec 32 := Scalar.remsi v1 c2_i32
  let v3 : BitVec 32 := Scalar.subi c1_i32 v2
  let c0_i32_89 : BitVec 32 := 0#32
  let c0_i32_90 : BitVec 32 := 0#32
  ![v3.toNat, 0, 0]
def k0_off3 (i : grid0.Coords) : Fin 3 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c1_i32_79 : BitVec 32 := 1#32
  let v268 : BitVec 32 := Scalar.addi v1 c1_i32_79
  let c0_i32_81 : BitVec 32 := 0#32
  let v270 : BitVec 1 := Scalar.cmpi .sgt v268 c0_i32_81
  let v271 : BitVec 32 := Scalar.extui v270
  let c0_i32_82 : BitVec 32 := 0#32
  let v272 : BitVec 1 := Scalar.cmpi .slt v268 c0_i32_82
  let v273 : BitVec 32 := Scalar.extui v272
  let v274 : BitVec 32 := Scalar.subi v271 v273
  let c5_i32_80 : BitVec 32 := 5#32
  let c0_i32_83 : BitVec 32 := 0#32
  let v275 : BitVec 1 := Scalar.cmpi .sgt c5_i32_80 c0_i32_83
  let v276 : BitVec 32 := Scalar.extui v275
  let c0_i32_84 : BitVec 32 := 0#32
  let v277 : BitVec 1 := Scalar.cmpi .slt c5_i32_80 c0_i32_84
  let v278 : BitVec 32 := Scalar.extui v277
  let v279 : BitVec 32 := Scalar.subi v276 v278
  let v280 : BitVec 1 := Scalar.cmpi .ne v274 v279
  let v281 : BitVec 32 := Scalar.remsi v268 c5_i32_80
  let c0_i32_85 : BitVec 32 := 0#32
  let v282 : BitVec 1 := Scalar.cmpi .ne v281 c0_i32_85
  let v283 : BitVec 1 := Scalar.andi v280 v282
  let v269 : BitVec 32 := Scalar.divsi v268 c5_i32_80
  let c1_i32_86 : BitVec 32 := 1#32
  let v284 : BitVec 32 := Scalar.subi v269 c1_i32_86
  let v285 : BitVec 32 := Scalar.select v283 v284 v269
  let c5_i32_87 : BitVec 32 := 5#32
  let v286 : BitVec 32 := Scalar.remsi v268 c5_i32_87
  let c10000_i32_88 : BitVec 32 := 10000#32
  let v287 : BitVec 32 := Scalar.muli v286 c10000_i32_88
  let c0_i32_91 : BitVec 32 := 0#32
  ![v285.toNat, v287.toNat, 0]
def k0_off4 (i : grid0.Coords) : Fin 1 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off5 (i : grid0.Coords) : Fin 3 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_50 : BitVec 32 := 0#32
  let c0_i32_51 : BitVec 32 := 0#32
  ![v2.toNat, 0, 0]
def k0_off6 (i : grid0.Coords) : Fin 3 → Nat :=
  let arg0 : BitVec 32 := BitVec.ofNat 32 (i 0).val
  let arg1 : BitVec 32 := BitVec.ofNat 32 (i 1).val
  let c10000_i32 : BitVec 32 := 10000#32
  let v184 : BitVec 32 := Scalar.muli arg1 c10000_i32
  let c0_i32_52 : BitVec 32 := 0#32
  ![arg0.toNat, v184.toNat, 0]
def k0_off7 (i : grid0.Coords) : Fin 3 → Nat :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c2_i32 : BitVec 32 := 2#32
  let v2 : BitVec 32 := Scalar.remsi v1 c2_i32
  let v191 : Index := Scalar.indexCast v2
  let c0_53 : Index := 0#32
  let c0_54 : Index := 0#32
  ![v191.toNat, 0, 0]
def k0_cond1 (i : grid0.Coords) : BitVec 1 :=
  let arg0 : BitVec 32 := BitVec.ofNat 32 (i 0).val
  let c5_i32 : BitVec 32 := 5#32
  let v0 : BitVec 32 := Scalar.muli arg0 c5_i32
  let arg1 : BitVec 32 := BitVec.ofNat 32 (i 1).val
  let v1 : BitVec 32 := Scalar.addi v0 arg1
  let c0_i32 : BitVec 32 := 0#32
  let v4 : BitVec 1 := Scalar.cmpi .eq v1 c0_i32
  let v5 : BitVec 32 := Scalar.extui v4
  let c0_i32_0 : BitVec 32 := 0#32
  let v6 : BitVec 1 := Scalar.cmpi .ne v5 c0_i32_0
  v6

def k0_cond4 (i : grid0.Coords) : BitVec 1 :=
  let arg1 : BitVec 32 := BitVec.ofNat 32 (i 1).val
  let c4_i32 : BitVec 32 := 4#32
  let v265 : BitVec 1 := Scalar.cmpi .eq arg1 c4_i32
  let v266 : BitVec 32 := Scalar.extui v265
  let c0_i32_78 : BitVec 32 := 0#32
  let v267 : BitVec 1 := Scalar.cmpi .ne v266 c0_i32_78
  v267

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S1x1x4x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .smem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== ReferenceIdeal.lean ====
abbrev S4x50000x80 : Shape := ⟨3, ![4, 50000, 80]⟩
abbrev S4x50000x4 : Shape := ⟨3, ![4, 50000, 4]⟩
abbrev S4x32x4 : Shape := ⟨3, ![4, 32, 4]⟩
abbrev S4x32 : Shape := ⟨2, ![4, 32]⟩
abbrev S4x50000x2 : Shape := ⟨3, ![4, 50000, 2]⟩
abbrev S_ : Shape := ⟨0, ![]⟩
abbrev S4x32x2 : Shape := ⟨3, ![4, 32, 2]⟩
abbrev S4x50000x1x2 : Shape := ⟨4, ![4, 50000, 1, 2]⟩
abbrev S4x1x32x2 : Shape := ⟨4, ![4, 1, 32, 2]⟩
abbrev S4x50000x32x2 : Shape := ⟨4, ![4, 50000, 32, 2]⟩
abbrev S4x50000x32x1 : Shape := ⟨4, ![4, 50000, 32, 1]⟩
abbrev S4x50000x32 : Shape := ⟨3, ![4, 50000, 32]⟩
abbrev S4x50000x1 : Shape := ⟨3, ![4, 50000, 1]⟩
abbrev S4x50000 : Shape := ⟨2, ![4, 50000]⟩
abbrev S4x32x1 : Shape := ⟨3, ![4, 32, 1]⟩
abbrev S4x1x32 : Shape := ⟨3, ![4, 1, 32]⟩
abbrev S50000 : Shape := ⟨1, ![50000]⟩
abbrev S4 : Shape := ⟨1, ![4]⟩
abbrev S1 : Shape := ⟨1, ![1]⟩
abbrev S4x1 : Shape := ⟨2, ![4, 1]⟩
abbrev S4x33 : Shape := ⟨2, ![4, 33]⟩
abbrev S1x80 : Shape := ⟨2, ![1, 80]⟩
abbrev S1x1x80 : Shape := ⟨3, ![1, 1, 80]⟩
abbrev S2 : Shape := ⟨1, ![2]⟩

abbrev nBuf : Space → Nat
  | .hbm => 290
  | .vmem => 0
  | .smem => 0
  | _ => 0

abbrev hbmTy0_0 (i : Nat) : BufTy := match i % 128 with
  | 0 => ⟨S4x50000x80, .f32⟩
  | 1 => ⟨S4x50000x4, .f32⟩
  | 2 => ⟨S4x50000x4, .f32⟩
  | 3 => ⟨S4x32x4, .f32⟩
  | 4 => ⟨S4x32, .i32⟩
  | 5 => ⟨S4x50000x2, .f32⟩
  | 6 => ⟨S4x50000x2, .f32⟩
  | 7 => ⟨S_, .f32⟩
  | 8 => ⟨S4x50000x2, .f32⟩
  | 9 => ⟨S4x50000x2, .f32⟩
  | 10 => ⟨S4x50000x2, .f32⟩
  | 11 => ⟨S4x50000x2, .f32⟩
  | 12 => ⟨S4x50000x2, .f32⟩
  | 13 => ⟨S_, .f32⟩
  | 14 => ⟨S4x50000x2, .f32⟩
  | 15 => ⟨S4x50000x2, .f32⟩
  | 16 => ⟨S4x50000x2, .f32⟩
  | 17 => ⟨S4x50000x4, .f32⟩
  | 18 => ⟨S4x32x2, .f32⟩
  | 19 => ⟨S4x32x2, .f32⟩
  | 20 => ⟨S_, .f32⟩
  | 21 => ⟨S4x32x2, .f32⟩
  | 22 => ⟨S4x32x2, .f32⟩
  | 23 => ⟨S4x32x2, .f32⟩
  | 24 => ⟨S4x32x2, .f32⟩
  | 25 => ⟨S4x32x2, .f32⟩
  | 26 => ⟨S_, .f32⟩
  | 27 => ⟨S4x32x2, .f32⟩
  | 28 => ⟨S4x32x2, .f32⟩
  | 29 => ⟨S4x32x2, .f32⟩
  | 30 => ⟨S4x32x4, .f32⟩
  | 31 => ⟨S4x50000x2, .f32⟩
  | 32 => ⟨S4x50000x1x2, .f32⟩
  | 33 => ⟨S4x32x2, .f32⟩
  | 34 => ⟨S4x1x32x2, .f32⟩
  | 35 => ⟨S4x50000x32x2, .f32⟩
  | 36 => ⟨S4x50000x32x2, .f32⟩
  | 37 => ⟨S4x50000x32x2, .f32⟩
  | 38 => ⟨S4x50000x2, .f32⟩
  | 39 => ⟨S4x50000x1x2, .f32⟩
  | 40 => ⟨S4x32x2, .f32⟩
  | 41 => ⟨S4x1x32x2, .f32⟩
  | 42 => ⟨S4x50000x32x2, .f32⟩
  | 43 => ⟨S4x50000x32x2, .f32⟩
  | 44 => ⟨S4x50000x32x2, .f32⟩
  | 45 => ⟨S4x50000x32x2, .f32⟩
  | 46 => ⟨S_, .f32⟩
  | 47 => ⟨S_, .f32⟩
  | 48 => ⟨S4x50000x32x2, .f32⟩
  | 49 => ⟨S4x50000x32x2, .f32⟩
  | 50 => ⟨S4x50000x32x1, .f32⟩
  | 51 => ⟨S4x50000x32, .f32⟩
  | 52 => ⟨S4x50000x32x1, .f32⟩
  | 53 => ⟨S4x50000x32, .f32⟩
  | 54 => ⟨S4x50000x32, .f32⟩
  | 55 => ⟨S4x50000x1, .f32⟩
  | 56 => ⟨S4x50000, .f32⟩
  | 57 => ⟨S4x50000x1, .f32⟩
  | 58 => ⟨S4x50000, .f32⟩
  | 59 => ⟨S4x50000, .f32⟩
  | 60 => ⟨S4x50000x1, .f32⟩
  | 61 => ⟨S4x50000, .f32⟩
  | 62 => ⟨S4x50000x1, .f32⟩
  | 63 => ⟨S4x50000, .f32⟩
  | 64 => ⟨S4x50000, .f32⟩
  | 65 => ⟨S4x50000, .f32⟩
  | 66 => ⟨S4x32x1, .f32⟩
  | 67 => ⟨S4x32, .f32⟩
  | 68 => ⟨S4x32x1, .f32⟩
  | 69 => ⟨S4x32, .f32⟩
  | 70 => ⟨S4x32, .f32⟩
  | 71 => ⟨S4x32x1, .f32⟩
  | 72 => ⟨S4x32, .f32⟩
  | 73 => ⟨S4x32x1, .f32⟩
  | 74 => ⟨S4x32, .f32⟩
  | 75 => ⟨S4x32, .f32⟩
  | 76 => ⟨S4x32, .f32⟩
  | 77 => ⟨S4x50000x1, .f32⟩
  | 78 => ⟨S4x1x32, .f32⟩
  | 79 => ⟨S4x50000x32, .f32⟩
  | 80 => ⟨S4x50000x32, .f32⟩
  | 81 => ⟨S4x50000x32, .f32⟩
  | 82 => ⟨S4x50000x32, .f32⟩
  | 83 => ⟨S_, .f32⟩
  | 84 => ⟨S4x50000x32, .f32⟩
  | 85 => ⟨S4x50000x32, .f32⟩
  | 86 => ⟨S4x50000x32, .f32⟩
  | 87 => ⟨S4x50000x1, .f32⟩
  | 88 => ⟨S4x50000x1, .i32⟩
  | 89 => ⟨S4x50000, .f32⟩
  | 90 => ⟨S4x50000, .i32⟩
  | 91 => ⟨S_, .i32⟩
  | 92 => ⟨S50000, .i32⟩
  | 93 => ⟨S_, .f32⟩
  | 94 => ⟨S4x50000, .f32⟩
  | 95 => ⟨S4x50000, .i1⟩
  | 96 => ⟨S_, .i32⟩
  | 97 => ⟨S_, .i32⟩
  | 98 => ⟨S50000, .i32⟩
  | 99 => ⟨S4x50000, .i32⟩
  | 100 => ⟨S4x50000, .i32⟩
  | 101 => ⟨S4x50000, .i32⟩
  | 102 => ⟨S_, .f32⟩
  | 103 => ⟨S4x50000, .f32⟩
  | 104 => ⟨S4x50000, .i1⟩
  | 105 => ⟨S4x50000, .i32⟩
  | 106 => ⟨S_, .i32⟩
  | 107 => ⟨S4x50000, .i32⟩
  | 108 => ⟨S4x50000, .i1⟩
  | 109 => ⟨S4x50000, .f32⟩
  | 110 => ⟨S_, .f32⟩
  | 111 => ⟨S4, .f32⟩
  | 112 => ⟨S_, .i32⟩
  | 113 => ⟨S_, .i32⟩
  | 114 => ⟨S50000, .i32⟩
  | 115 => ⟨S4x50000, .i32⟩
  | 116 => ⟨S4x50000, .i32⟩
  | 117 => ⟨S_, .i32⟩
  | 118 => ⟨S4x50000, .i32⟩
  | 119 => ⟨S4x50000, .i1⟩
  | 120 => ⟨S_, .i32⟩
  | 121 => ⟨S4x50000, .i32⟩
  | 122 => ⟨S4x50000, .i32⟩
  | 123 => ⟨S4x50000, .i32⟩
  | 124 => ⟨S4x50000x1, .i32⟩
  | 125 => ⟨S4x50000x4, .f32⟩
  | 126 => ⟨S4x50000x2, .f32⟩
  | 127 => ⟨S4x50000x2, .f32⟩
  | _ => ⟨S4x50000x80, .f32⟩

abbrev hbmTy0_1 (i : Nat) : BufTy := match i % 128 with
  | 0 => ⟨S4x50000x2, .f32⟩
  | 1 => ⟨S4x50000x2, .f32⟩
  | 2 => ⟨S4x50000x2, .f32⟩
  | 3 => ⟨S4x50000x2, .f32⟩
  | 4 => ⟨S4x50000x2, .f32⟩
  | 5 => ⟨S4x50000x2, .f32⟩
  | 6 => ⟨S_, .f32⟩
  | 7 => ⟨S4x50000x2, .f32⟩
  | 8 => ⟨S4x50000x2, .f32⟩
  | 9 => ⟨S4x50000x2, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S4x50000x2, .f32⟩
  | 17 => ⟨S4x50000x2, .f32⟩
  | 18 => ⟨S4x50000x2, .f32⟩
  | 19 => ⟨S4x50000x2, .f32⟩
  | 20 => ⟨S4x50000x4, .f32⟩
  | 21 => ⟨S4x50000x4, .f32⟩
  | 22 => ⟨S4x50000x4, .f32⟩
  | 23 => ⟨S_, .f32⟩
  | 24 => ⟨S4x50000x4, .f32⟩
  | 25 => ⟨S4x50000x4, .i1⟩
  | 26 => ⟨S_, .f32⟩
  | 27 => ⟨S4x50000x4, .f32⟩
  | 28 => ⟨S4x50000x4, .f32⟩
  | 29 => ⟨S4x50000x4, .f32⟩
  | 30 => ⟨S_, .f32⟩
  | 31 => ⟨S4x50000x4, .f32⟩
  | 32 => ⟨S4x50000x4, .f32⟩
  | 33 => ⟨S4x50000x4, .f32⟩
  | 34 => ⟨S4x50000x1, .i1⟩
  | 35 => ⟨S4x50000x1, .f32⟩
  | 36 => ⟨S4x50000x4, .f32⟩
  | 37 => ⟨S4x50000x4, .f32⟩
  | 38 => ⟨S_, .f32⟩
  | 39 => ⟨S4, .f32⟩
  | 40 => ⟨S4, .i1⟩
  | 41 => ⟨S_, .f32⟩
  | 42 => ⟨S4x50000, .f32⟩
  | 43 => ⟨S_, .f32⟩
  | 44 => ⟨S4, .f32⟩
  | 45 => ⟨S_, .f32⟩
  | 46 => ⟨S4, .f32⟩
  | 47 => ⟨S4, .f32⟩
  | 48 => ⟨S_, .f32⟩
  | 49 => ⟨S4, .f32⟩
  | 50 => ⟨S4, .f32⟩
  | 51 => ⟨S4, .f32⟩
  | 52 => ⟨S_, .f32⟩
  | 53 => ⟨S_, .f32⟩
  | 54 => ⟨S4, .f32⟩
  | 55 => ⟨S4, .f32⟩
  | 56 => ⟨S_, .i32⟩
  | 57 => ⟨S4x50000, .i32⟩
  | 58 => ⟨S4x50000, .i32⟩
  | 59 => ⟨S_, .i32⟩
  | 60 => ⟨S4x50000, .i32⟩
  | 61 => ⟨S4x50000, .i1⟩
  | 62 => ⟨S_, .i32⟩
  | 63 => ⟨S1, .i32⟩
  | 64 => ⟨S4x1, .i32⟩
  | 65 => ⟨S4x33, .i32⟩
  | 66 => ⟨S_, .i32⟩
  | 67 => ⟨S_, .i32⟩
  | 68 => ⟨S50000, .i32⟩
  | 69 => ⟨S4x50000, .i32⟩
  | 70 => ⟨S4x50000, .i32⟩
  | 71 => ⟨S_, .i32⟩
  | 72 => ⟨S4x50000, .i32⟩
  | 73 => ⟨S4x50000, .i1⟩
  | 74 => ⟨S_, .i32⟩
  | 75 => ⟨S4x50000, .i32⟩
  | 76 => ⟨S4x50000, .i32⟩
  | 77 => ⟨S4x50000, .i32⟩
  | 78 => ⟨S4x50000x1, .i32⟩
  | 79 => ⟨S4x50000, .i32⟩
  | 80 => ⟨S_, .i32⟩
  | 81 => ⟨S4x50000, .i32⟩
  | 82 => ⟨S4x50000, .i32⟩
  | 83 => ⟨S4x50000x1, .i32⟩
  | 84 => ⟨S1x80, .i32⟩
  | 85 => ⟨S1x1x80, .i32⟩
  | 86 => ⟨S4x50000x80, .i32⟩
  | 87 => ⟨S4x50000x80, .i32⟩
  | 88 => ⟨S4x50000x80, .i1⟩
  | 89 => ⟨S4x50000x80, .f32⟩
  | 90 => ⟨S_, .i32⟩
  | 91 => ⟨S4x50000, .i32⟩
  | 92 => ⟨S4x50000, .i1⟩
  | 93 => ⟨S4x50000x1, .i1⟩
  | 94 => ⟨S4x50000x1, .f32⟩
  | 95 => ⟨S4x50000x80, .f32⟩
  | 96 => ⟨S4x50000x80, .f32⟩
  | 97 => ⟨S4x50000, .f32⟩
  | 98 => ⟨S4x50000x80, .f32⟩
  | 99 => ⟨S4x50000x80, .f32⟩
  | 100 => ⟨S_, .f32⟩
  | 101 => ⟨S4x50000x80, .f32⟩
  | 102 => ⟨S4x50000x80, .f32⟩
  | 103 => ⟨S_, .f32⟩
  | 104 => ⟨S4x50000x80, .f32⟩
  | 105 => ⟨S4x50000x80, .f32⟩
  | 106 => ⟨S_, .f32⟩
  | 107 => ⟨S4x50000x80, .f32⟩
  | 108 => ⟨S4x50000x80, .f32⟩
  | 109 => ⟨S4x50000x80, .f32⟩
  | 110 => ⟨S_, .f32⟩
  | 111 => ⟨S4x50000x80, .f32⟩
  | 112 => ⟨S4x50000x80, .f32⟩
  | 113 => ⟨S4x50000x80, .f32⟩
  | 114 => ⟨S4x50000x80, .f32⟩
  | 115 => ⟨S_, .f32⟩
  | 116 => ⟨S4x50000x80, .f32⟩
  | 117 => ⟨S4x50000x80, .f32⟩
  | 118 => ⟨S_, .f32⟩
  | 119 => ⟨S4x50000x80, .f32⟩
  | 120 => ⟨S4x50000x80, .f32⟩
  | 121 => ⟨S_, .f32⟩
  | 122 => ⟨S4x50000x80, .f32⟩
  | 123 => ⟨S4x50000x80, .f32⟩
  | 124 => ⟨S4x50000x80, .f32⟩
  | 125 => ⟨S_, .f32⟩
  | 126 => ⟨S4x50000x80, .f32⟩
  | 127 => ⟨S4x50000x80, .f32⟩
  | _ => ⟨S4x50000x80, .f32⟩

abbrev hbmTy0_2 (i : Nat) : BufTy := match i % 128 with
  | 0 => ⟨S4x50000x80, .f32⟩
  | 1 => ⟨S_, .f32⟩
  | 2 => ⟨S4x50000x80, .f32⟩
  | 3 => ⟨S4x50000x80, .f32⟩
  | 4 => ⟨S4x50000x80, .f32⟩
  | 5 => ⟨S4x50000x80, .f32⟩
  | 6 => ⟨S4x50000x80, .f32⟩
  | 7 => ⟨S4x50000x80, .f32⟩
  | 8 => ⟨S4x50000x80, .f32⟩
  | 9 => ⟨S4x50000x80, .f32⟩
  | 10 => ⟨S4x50000x80, .f32⟩
  | 11 => ⟨S4x50000x80, .f32⟩
  | 12 => ⟨S4x50000x1, .f32⟩
  | 13 => ⟨S4x50000x80, .f32⟩
  | 14 => ⟨S4x50000x80, .f32⟩
  | 15 => ⟨S_, .f32⟩
  | 16 => ⟨S4x50000, .f32⟩
  | 17 => ⟨S_, .f32⟩
  | 18 => ⟨S4, .f32⟩
  | 19 => ⟨S_, .f32⟩
  | 20 => ⟨S4, .f32⟩
  | 21 => ⟨S4, .f32⟩
  | 22 => ⟨S4, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S1, .f32⟩
  | 32 => ⟨S1, .f32⟩
  | 33 => ⟨S2, .f32⟩
  | _ => ⟨S4x50000x80, .f32⟩

abbrev hbmTy (i : Nat) : BufTy := match i / 128 with
  | 0 => hbmTy0_0 i
  | 1 => hbmTy0_1 i
  | 2 => hbmTy0_2 i
  | _ => ⟨S4x50000x80, .f32⟩

abbrev bufTy : (tb : Table) → Fin (tcTables nBuf tb) → BufTy
  | .hbm, ⟨i, _⟩ => hbmTy i
  | _, _ => ⟨S4x50000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_4 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_values : Ref sig .tc := ⟨.hbm, 87, rfl⟩
abbrev main_indices : Ref sig .tc := ⟨.hbm, 88, rfl⟩
abbrev main_v74 : Ref sig .tc := ⟨.hbm, 89, rfl⟩
abbrev main_v75 : Ref sig .tc := ⟨.hbm, 90, rfl⟩
abbrev main_c : Ref sig .tc := ⟨.hbm, 91, rfl⟩
abbrev main_v76 : Ref sig .tc := ⟨.hbm, 92, rfl⟩
abbrev main_cst_5 : Ref sig .tc := ⟨.hbm, 93, rfl⟩
abbrev main_v77 : Ref sig .tc := ⟨.hbm, 94, rfl⟩
abbrev main_v78 : Ref sig .tc := ⟨.hbm, 95, rfl⟩
abbrev main_c_6 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_v79 : Ref sig .tc := ⟨.hbm, 101, rfl⟩
abbrev main_cst_7 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c_8 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_9 : Ref sig .tc := ⟨.hbm, 110, rfl⟩
abbrev main_v86 : Ref sig .tc := ⟨.hbm, 111, rfl⟩
abbrev main_c_10 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_v87 : Ref sig .tc := ⟨.hbm, 116, rfl⟩
abbrev main_c_11 : Ref sig .tc := ⟨.hbm, 117, rfl⟩
abbrev main_v88 : Ref sig .tc := ⟨.hbm, 118, rfl⟩
abbrev main_v89 : Ref sig .tc := ⟨.hbm, 119, rfl⟩
abbrev main_c_12 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_13 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_14 : Ref sig .tc := ⟨.hbm, 138, rfl⟩
abbrev main_cst_15 : Ref sig .tc := ⟨.hbm, 139, rfl⟩
abbrev main_v106 : Ref sig .tc := ⟨.hbm, 140, rfl⟩
abbrev main_cst_16 : Ref sig .tc := ⟨.hbm, 141, rfl⟩
abbrev main_cst_17 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_18 : Ref sig .tc := ⟨.hbm, 151, rfl⟩
abbrev main_v115 : Ref sig .tc := ⟨.hbm, 152, rfl⟩
abbrev main_v116 : Ref sig .tc := ⟨.hbm, 153, rfl⟩
abbrev main_cst_19 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_20 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_21 : Ref sig .tc := ⟨.hbm, 166, rfl⟩
abbrev main_v127 : Ref sig .tc := ⟨.hbm, 167, rfl⟩
abbrev main_v128 : Ref sig .tc := ⟨.hbm, 168, rfl⟩
abbrev main_cst_22 : Ref sig .tc := ⟨.hbm, 169, rfl⟩
abbrev main_v129 : Ref sig .tc := ⟨.hbm, 170, rfl⟩
abbrev main_cst_23 : Ref sig .tc := ⟨.hbm, 171, rfl⟩
abbrev main_v130 : Ref sig .tc := ⟨.hbm, 172, rfl⟩
abbrev main_cst_24 : Ref sig .tc := ⟨.hbm, 173, rfl⟩
abbrev main_v131 : Ref sig .tc := ⟨.hbm, 174, rfl⟩
abbrev main_v132 : Ref sig .tc := ⟨.hbm, 175, rfl⟩
abbrev main_cst_25 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_26 : Ref sig .tc := ⟨.hbm, 180, rfl⟩
abbrev main_call5_v0 : Ref sig .tc := ⟨.hbm, 181, rfl⟩
abbrev main_call5_v1 : Ref sig .tc := ⟨.hbm, 182, rfl⟩
abbrev main_v136 : Ref sig .tc := ⟨.hbm, 183, rfl⟩
abbrev main_c_27 : Ref sig .tc := ⟨.hbm, 184, rfl⟩
abbrev main_v137 : Ref sig .tc := ⟨.hbm, 185, rfl⟩
abbrev main_v138 : Ref sig .tc := ⟨.hbm, 186, rfl⟩
abbrev main_c_28 : Ref sig .tc := ⟨.hbm, 187, rfl⟩
abbrev main_v139 : Ref sig .tc := ⟨.hbm, 188, rfl⟩
abbrev main_v140 : Ref sig .tc := ⟨.hbm, 189, rfl⟩
abbrev main_c_29 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_c_30 : Ref sig .tc := ⟨.hbm, 194, rfl⟩
abbrev main_call6_v0 : Ref sig .tc := ⟨.hbm, 195, rfl⟩
abbrev main_call6_v1 : Ref sig .tc := ⟨.hbm, 196, rfl⟩
abbrev main_call6_v2 : Ref sig .tc := ⟨.hbm, 197, rfl⟩
abbrev main_v144 : Ref sig .tc := ⟨.hbm, 198, rfl⟩
abbrev main_c_31 : Ref sig .tc := ⟨.hbm, 199, rfl⟩
abbrev main_v145 : Ref sig .tc := ⟨.hbm, 200, rfl⟩
abbrev main_v146 : Ref sig .tc := ⟨.hbm, 201, rfl⟩
abbrev main_c_32 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_c_33 : Ref sig .tc := ⟨.hbm, 208, rfl⟩
abbrev main_v152 : Ref sig .tc := ⟨.hbm, 209, rfl⟩
abbrev main_v153 : Ref sig .tc := ⟨.hbm, 210, rfl⟩
abbrev main_call7_v0 : Ref sig .tc := ⟨.hbm, 211, rfl⟩
abbrev main_call7_v1 : Ref sig .tc := ⟨.hbm, 212, rfl⟩
abbrev main_call7_v2 : Ref sig .tc := ⟨.hbm, 213, rfl⟩
abbrev main_call7_v3 : Ref sig .tc := ⟨.hbm, 214, rfl⟩
abbrev main_call7_v4 : Ref sig .tc := ⟨.hbm, 215, rfl⟩
abbrev main_call7_v5 : Ref sig .tc := ⟨.hbm, 216, rfl⟩
abbrev main_v154 : Ref sig .tc := ⟨.hbm, 217, rfl⟩
abbrev main_c_34 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_cst_35 : Ref sig .tc := ⟨.hbm, 228, rfl⟩
abbrev main_v164 : Ref sig .tc := ⟨.hbm, 229, rfl⟩
abbrev main_v165 : Ref sig .tc := ⟨.hbm, 230, rfl⟩
abbrev main_cst_36 : Ref sig .tc := ⟨.hbm, 231, rfl⟩
abbrev main_v166 : Ref sig .tc := ⟨.hbm, 232, rfl⟩
abbrev main_v167 : Ref sig .tc := ⟨.hbm, 233, rfl⟩
abbrev main_cst_37 : Ref sig .tc := ⟨.hbm, 234, rfl⟩
abbrev main_v168 : Ref sig .tc := ⟨.hbm, 235, rfl⟩
abbrev main_v169 : Ref sig .tc := ⟨.hbm, 236, rfl⟩
abbrev main_v170 : Ref sig .tc := ⟨.hbm, 237, rfl⟩
abbrev main_cst_38 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_cst_39 : Ref sig .tc := ⟨.hbm, 243, rfl⟩
abbrev main_v175 : Ref sig .tc := ⟨.hbm, 244, rfl⟩
abbrev main_v176 : Ref sig .tc := ⟨.hbm, 245, rfl⟩
abbrev main_cst_40 : Ref sig .tc := ⟨.hbm, 246, rfl⟩
abbrev main_v177 : Ref sig .tc := ⟨.hbm, 247, rfl⟩
abbrev main_v178 : Ref sig .tc := ⟨.hbm, 248, rfl⟩
abbrev main_cst_41 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_cst_42 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_cst_43 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_cst_44 : Ref sig .tc := ⟨.hbm, 271, rfl⟩
abbrev main_v198 : Ref sig .tc := ⟨.hbm, 272, rfl⟩
abbrev main_cst_45 : Ref sig .tc := ⟨.hbm, 273, rfl⟩
abbrev main_v199 : Ref sig .tc := ⟨.hbm, 274, rfl⟩
abbrev main_cst_46 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_cst_47 : Ref sig .tc := ⟨.hbm, 279, rfl⟩
abbrev main_v203 : Ref sig .tc := ⟨.hbm, 280, rfl⟩
abbrev main_cst_48 : Ref sig .tc := ⟨.hbm, 281, rfl⟩
abbrev main_v204 : Ref sig .tc := ⟨.hbm, 282, rfl⟩
abbrev main_cst_49 : Ref sig .tc := ⟨.hbm, 283, rfl⟩
abbrev main_v205 : Ref sig .tc := ⟨.hbm, 284, rfl⟩
abbrev main_cst_50 : Ref sig .tc := ⟨.hbm, 285, rfl⟩
abbrev main_v206 : Ref sig .tc := ⟨.hbm, 286, rfl⟩
abbrev main_v207 : Ref sig .tc := ⟨.hbm, 287, rfl⟩
abbrev main_v208 : Ref sig .tc := ⟨.hbm, 288, rfl⟩
abbrev main_v209 : Ref sig .tc := ⟨.hbm, 289, rfl⟩

abbrev nD : Nat := 1
abbrev τ : Topo := Topo.v7x

variable {F : FTy → Type} [FloatOps F]
-- ==== Proof.KFrame.RunA.lean ====
/- The frame of the kernel as printed. -/
module

public import proofs.«01_k».proof.Proof.KFrame.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 taken, `scf.if` 2 taken, `scf.if` 3 not taken: points 0): on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (t : Fin cfg0.N) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (hc0 : cond0_0 (grid0.coords t)) (hc1 : cond0_1 (grid0.coords t)) (hc2 : cond0_2 (grid0.coords t)) (hc3 : ¬cond0_3 (grid0.coords t))
    (x0 : Vec F S1x1x4x10000 .f32) (x1 : Vec F S1x1x4x10000 .f32) (x2 : Vec F S1x32x4 .f32) (x3 : Vec F S1x4x32 .f32) (x4 : Vec F S1x32x1 .f32) (fh0 : HbBuf0 (F := F) c hbM0_0) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ Ring.free (cellP0_0 c) (slotW0_0 c fh0) (Ring.sl 2 t.val) ∗ Ring.free (cellP0_0 c) (slotW0_0 c fh0) (Ring.sl 2 (t.val + 1)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ Ring.inflight (flightW0_0 c fh0) (Ring.sl 2 (t.val + 1)) (Ring.bk 20 (t.val + 1)) ∗ Ring.kept (cellP0_0 c) (slotW0_0 c fh0) (landed0_0 c fh0) (Ring.sl 2 t.val) (Ring.bk 20 t.val) ∗ (∃ W', owes (c : Thread nD τ) 0 W')) -∗ K ⟨⟩))
          ⊢ wp frame (wpE (defs₀ (F := F)) Variants.none c none) Set.univ (cc0__loss_body (grid0.coords t) (Memref.whole main_arg0) (Memref.isWhole_whole _) arg3 harg3 arg4 harg4 arg5 harg5 arg6 harg6 arg7 harg7 arg8 harg8 arg9 harg9 scM0_1 (Memref.isWhole_whole _) cc0_scratch2) K := by
    intro W K
    haveI : Fact (cond0_0 (grid0.coords t)) := ⟨hc0⟩
    haveI : Fact (cond0_1 (grid0.coords t)) := ⟨hc1⟩
    haveI : Fact (cond0_2 (grid0.coords t)) := ⟨hc2⟩
    haveI : Fact (¬cond0_3 (grid0.coords t)) := ⟨hc3⟩
    simp only [cc0__loss_body_eq_skeleton]; unfold cc0__loss_body_skel
    simp only [k0_part1_eq_skeleton, k0_part2_eq_skeleton, k0_part3_eq_skeleton, k0_part4_eq_skeleton, k0_part5_eq_skeleton, k0_part6_eq_skeleton]
    have hcanon0 := canon0_0_1 t hc0 hc1 hc2 hc3
    have hcanon1 := canon0_0_2 t hc0 hc1 hc2 hc3
    have hcanon2 := canon0_0_3 t hc0 hc1 hc2 hc3
    unfold owns Ring.free Ring.inflight Ring.kept
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨Hc0_0_0, ⟨%fs0_0_0, Hs0_0_0, Hw0_0_0⟩⟩, ⟨Hc0_0_1, ⟨%fs0_0_1, Hs0_0_1, Hw0_0_1⟩⟩, HW, Hk⟩
    ihave Hsp0_0_0 := (src0_0_split c fh0 (Ring.sl 2 t.val) (Ring.bk 20 t.val)).1 $$ Hw0_0_0
    icases Hsp0_0_0 with ⟨Hh0_0_0, Hr0_0_0⟩
    ihave Hsp0_0_1 := (src0_0_split c fh0 (Ring.sl 2 (t.val + 1)) (Ring.bk 20 (t.val + 1))).1 $$ Hw0_0_1
    icases Hsp0_0_1 with ⟨Hh0_0_1, Hr0_0_1⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]
    · iexists _, _; isplitr; swap; · iexact HS0
      ipureintro; rfl
    isplitl [Hc0_0_1 Hr0_0_1]
    · iexists _; isplitl [Hc0_0_1]; · iexact Hc0_0_1
      iexact Hr0_0_1
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 2 t.val) (Ring.bk 20 t.val)).2; isplitl [Hh0_0_0]; · iexact Hh0_0_0
      iexact Hr0_0_0
    iexists _; iexact HW

end Cert.Kernel.Gen

end
-- ==== Proof.KFrame.RunB.lean ====
/- The frame of the kernel as printed. -/
module

public import proofs.«01_k».proof.Proof.KFrame.RunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 not taken, `scf.if` 2 taken, `scf.if` 3 not taken: points 1, 2, … 18: 12 of 20): on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (t : Fin cfg0.N) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (hc0 : ¬cond0_0 (grid0.coords t)) (hc1 : ¬cond0_1 (grid0.coords t)) (hc2 : cond0_2 (grid0.coords t)) (hc3 : ¬cond0_3 (grid0.coords t))
    (x0 : Vec F S1x1x4x10000 .f32) (x1 : Vec F S1x1x4x10000 .f32) (x2 : Vec F S1x32x4 .f32) (x3 : Vec F S1x4x32 .f32) (x4 : Vec F S1x32x1 .f32) (fh0 : HbBuf0 (F := F) c hbM0_0) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ Ring.inflight (flightW0_0 c fh0) (Ring.sl 2 t.val) (Ring.bk 20 t.val) ∗ Ring.kept (cellP0_0 c) (slotW0_0 c fh0) (landed0_0 c fh0) (Ring.sl 2 (t.val + 1)) (Ring.bk 20 (t.val - 1)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ Ring.inflight (flightW0_0 c fh0) (Ring.sl 2 (t.val + 1)) (Ring.bk 20 (t.val + 1)) ∗ Ring.kept (cellP0_0 c) (slotW0_0 c fh0) (landed0_0 c fh0) (Ring.sl 2 t.val) (Ring.bk 20 t.val) ∗ (∃ W', owes (c : Thread nD τ) 0 W')) -∗ K ⟨⟩))
          ⊢ wp frame (wpE (defs₀ (F := F)) Variants.none c none) Set.univ (cc0__loss_body (grid0.coords t) (Memref.whole main_arg0) (Memref.isWhole_whole _) arg3 harg3 arg4 harg4 arg5 harg5 arg6 harg6 arg7 harg7 arg8 harg8 arg9 harg9 scM0_1 (Memref.isWhole_whole _) cc0_scratch2) K := by
    intro W K
    haveI : Fact (¬cond0_0 (grid0.coords t)) := ⟨hc0⟩
    haveI : Fact (¬cond0_1 (grid0.coords t)) := ⟨hc1⟩
    haveI : Fact (cond0_2 (grid0.coords t)) := ⟨hc2⟩
    haveI : Fact (¬cond0_3 (grid0.coords t)) := ⟨hc3⟩
    simp only [cc0__loss_body_eq_skeleton]; unfold cc0__loss_body_skel
    simp only [k0_part1_eq_skeleton, k0_part2_eq_skeleton, k0_part3_eq_skeleton, k0_part4_eq_skeleton, k0_part5_eq_skeleton, k0_part6_eq_skeleton]
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ff0_0, Hf0_0, Hrf0_0⟩, ⟨Hc0_0_1, ⟨%fs0_0_1, Hs0_0_1, Hw0_0_1⟩⟩, HW, Hk⟩
    ihave Hsp0_0_1 := (src0_0_split c fh0 (Ring.sl 2 (t.val + 1)) (Ring.bk 20 (t.val + 1))).1 $$ Hw0_0_1
    icases Hsp0_0_1 with ⟨Hh0_0_1, Hr0_0_1⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]
    · iexists _, _; isplitr; swap; · iexact HS0
      ipureintro; rfl
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 20 t.val)).2; isplitl [Hf0_0_src]; · iexact Hf0_0_src
      iexact Hrf0_0
    iexists _; iexact HW

end Cert.Kernel.Gen

end
-- ==== Proof.KFrame.RunC.lean ====
/- The frame of the kernel as printed. -/
module

public import proofs.«01_k».proof.Proof.KFrame.RunB

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 not taken, `scf.if` 1 not taken, `scf.if` 2 taken, `scf.if` 3 taken: points 4, 9, 14): on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (t : Fin cfg0.N) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (hc0 : ¬cond0_0 (grid0.coords t)) (hc1 : ¬cond0_1 (grid0.coords t)) (hc2 : cond0_2 (grid0.coords t)) (hc3 : cond0_3 (grid0.coords t))
    (x0 : Vec F S1x1x4x10000 .f32) (x1 : Vec F S1x1x4x10000 .f32) (x2 : Vec F S1x32x4 .f32) (x3 : Vec F S1x4x32 .f32) (x4 : Vec F S1x32x1 .f32) (fh0 : HbBuf0 (F := F) c hbM0_0) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ Ring.inflight (flightW0_0 c fh0) (Ring.sl 2 t.val) (Ring.bk 20 t.val) ∗ Ring.kept (cellP0_0 c) (slotW0_0 c fh0) (landed0_0 c fh0) (Ring.sl 2 (t.val + 1)) (Ring.bk 20 (t.val - 1)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ Ring.inflight (flightW0_0 c fh0) (Ring.sl 2 (t.val + 1)) (Ring.bk 20 (t.val + 1)) ∗ Ring.kept (cellP0_0 c) (slotW0_0 c fh0) (landed0_0 c fh0) (Ring.sl 2 t.val) (Ring.bk 20 t.val) ∗ (∃ W', owes (c : Thread nD τ) 0 W')) -∗ K ⟨⟩))
          ⊢ wp frame (wpE (defs₀ (F := F)) Variants.none c none) Set.univ (cc0__loss_body (grid0.coords t) (Memref.whole main_arg0) (Memref.isWhole_whole _) arg3 harg3 arg4 harg4 arg5 harg5 arg6 harg6 arg7 harg7 arg8 harg8 arg9 harg9 scM0_1 (Memref.isWhole_whole _) cc0_scratch2) K := by
    intro W K
    haveI : Fact (¬cond0_0 (grid0.coords t)) := ⟨hc0⟩
    haveI : Fact (¬cond0_1 (grid0.coords t)) := ⟨hc1⟩
    haveI : Fact (cond0_2 (grid0.coords t)) := ⟨hc2⟩
    haveI : Fact (cond0_3 (grid0.coords t)) := ⟨hc3⟩
    simp only [cc0__loss_body_eq_skeleton]; unfold cc0__loss_body_skel
    simp only [k0_part1_eq_skeleton, k0_part2_eq_skeleton, k0_part3_eq_skeleton, k0_part4_eq_skeleton, k0_part5_eq_skeleton, k0_part6_eq_skeleton]
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ff0_0, Hf0_0, Hrf0_0⟩, ⟨Hc0_0_1, ⟨%fs0_0_1, Hs0_0_1, Hw0_0_1⟩⟩, HW, Hk⟩
    ihave Hsp0_0_1 := (src0_0_split c fh0 (Ring.sl 2 (t.val + 1)) (Ring.bk 20 (t.val + 1))).1 $$ Hw0_0_1
    icases Hsp0_0_1 with ⟨Hh0_0_1, Hr0_0_1⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]
    · iexists _, _; isplitr; swap; · iexact HS0
      ipureintro; rfl
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 20 t.val)).2; isplitl [Hf0_0_src]; · iexact Hf0_0_src
      iexact Hrf0_0
    iexists _; iexact HW

end Cert.Kernel.Gen

end
-- ==== Proof.KFrame.RunD.lean ====
/- The frame of the kernel as printed. -/
module

public import proofs.«01_k».proof.Proof.KFrame.RunC

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's triple IN CASE D (`scf.if` 0 not taken, `scf.if` 1 taken, `scf.if` 2 taken, `scf.if` 3 not taken: points 5, 10, 15): on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (t : Fin cfg0.N) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (hc0 : ¬cond0_0 (grid0.coords t)) (hc1 : cond0_1 (grid0.coords t)) (hc2 : cond0_2 (grid0.coords t)) (hc3 : ¬cond0_3 (grid0.coords t))
    (x0 : Vec F S1x1x4x10000 .f32) (x1 : Vec F S1x1x4x10000 .f32) (x2 : Vec F S1x32x4 .f32) (x3 : Vec F S1x4x32 .f32) (x4 : Vec F S1x32x1 .f32) (fh0 : HbBuf0 (F := F) c hbM0_0) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ Ring.inflight (flightW0_0 c fh0) (Ring.sl 2 t.val) (Ring.bk 20 t.val) ∗ Ring.kept (cellP0_0 c) (slotW0_0 c fh0) (landed0_0 c fh0) (Ring.sl 2 (t.val + 1)) (Ring.bk 20 (t.val - 1)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ Ring.inflight (flightW0_0 c fh0) (Ring.sl 2 (t.val + 1)) (Ring.bk 20 (t.val + 1)) ∗ Ring.kept (cellP0_0 c) (slotW0_0 c fh0) (landed0_0 c fh0) (Ring.sl 2 t.val) (Ring.bk 20 t.val) ∗ (∃ W', owes (c : Thread nD τ) 0 W')) -∗ K ⟨⟩))
          ⊢ wp frame (wpE (defs₀ (F := F)) Variants.none c none) Set.univ (cc0__loss_body (grid0.coords t) (Memref.whole main_arg0) (Memref.isWhole_whole _) arg3 harg3 arg4 harg4 arg5 harg5 arg6 harg6 arg7 harg7 arg8 harg8 arg9 harg9 scM0_1 (Memref.isWhole_whole _) cc0_scratch2) K := by
    intro W K
    haveI : Fact (¬cond0_0 (grid0.coords t)) := ⟨hc0⟩
    haveI : Fact (cond0_1 (grid0.coords t)) := ⟨hc1⟩
    haveI : Fact (cond0_2 (grid0.coords t)) := ⟨hc2⟩
    haveI : Fact (¬cond0_3 (grid0.coords t)) := ⟨hc3⟩
    simp only [cc0__loss_body_eq_skeleton]; unfold cc0__loss_body_skel
    simp only [k0_part1_eq_skeleton, k0_part2_eq_skeleton, k0_part3_eq_skeleton, k0_part4_eq_skeleton, k0_part5_eq_skeleton, k0_part6_eq_skeleton]
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ff0_0, Hf0_0, Hrf0_0⟩, ⟨Hc0_0_1, ⟨%fs0_0_1, Hs0_0_1, Hw0_0_1⟩⟩, HW, Hk⟩
    ihave Hsp0_0_1 := (src0_0_split c fh0 (Ring.sl 2 (t.val + 1)) (Ring.bk 20 (t.val + 1))).1 $$ Hw0_0_1
    icases Hsp0_0_1 with ⟨Hh0_0_1, Hr0_0_1⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]
    · iexists _, _; isplitr; swap; · iexact HS0
      ipureintro; rfl
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 20 t.val)).2; isplitl [Hf0_0_src]; · iexact Hf0_0_src
      iexact Hrf0_0
    iexists _; iexact HW

end Cert.Kernel.Gen

end
-- ==== Proof.KFrame.RunE.lean ====
/- The frame of the kernel as printed. -/
module

public import proofs.«01_k».proof.Proof.KFrame.RunD

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's triple IN CASE E (`scf.if` 0 not taken, `scf.if` 1 not taken, `scf.if` 2 not taken, `scf.if` 3 taken: points 19): on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_E (c : Dev nD) (t : Fin cfg0.N) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (hc0 : ¬cond0_0 (grid0.coords t)) (hc1 : ¬cond0_1 (grid0.coords t)) (hc2 : ¬cond0_2 (grid0.coords t)) (hc3 : cond0_3 (grid0.coords t))
    (x0 : Vec F S1x1x4x10000 .f32) (x1 : Vec F S1x1x4x10000 .f32) (x2 : Vec F S1x32x4 .f32) (x3 : Vec F S1x4x32 .f32) (x4 : Vec F S1x32x1 .f32) (fh0 : HbBuf0 (F := F) c hbM0_0) :
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ Ring.inflight (flightW0_0 c fh0) (Ring.sl 2 t.val) (Ring.bk 20 t.val) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ Ring.kept (cellP0_0 c) (slotW0_0 c fh0) (landed0_0 c fh0) (Ring.sl 2 t.val) (Ring.bk 20 t.val) ∗ (∃ W', owes (c : Thread nD τ) 0 W')) -∗ K ⟨⟩))
          ⊢ wp frame (wpE (defs₀ (F := F)) Variants.none c none) Set.univ (cc0__loss_body (grid0.coords t) (Memref.whole main_arg0) (Memref.isWhole_whole _) arg3 harg3 arg4 harg4 arg5 harg5 arg6 harg6 arg7 harg7 arg8 harg8 arg9 harg9 scM0_1 (Memref.isWhole_whole _) cc0_scratch2) K := by
    intro W K
    haveI : Fact (¬cond0_0 (grid0.coords t)) := ⟨hc0⟩
    haveI : Fact (¬cond0_1 (grid0.coords t)) := ⟨hc1⟩
    haveI : Fact (¬cond0_2 (grid0.coords t)) := ⟨hc2⟩
    haveI : Fact (cond0_3 (grid0.coords t)) := ⟨hc3⟩
    simp only [cc0__loss_body_eq_skeleton]; unfold cc0__loss_body_skel
    simp only [k0_part1_eq_skeleton, k0_part2_eq_skeleton, k0_part3_eq_skeleton, k0_part4_eq_skeleton, k0_part5_eq_skeleton, k0_part6_eq_skeleton]
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ff0_0, Hf0_0, Hrf0_0⟩, HW, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _, _; isplitr; swap; · iexact H5
      ipureintro; rfl
    isplitl [HS0]
    · iexists _, _; isplitr; swap; · iexact HS0
      ipureintro; rfl
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 20 t.val)).2; isplitl [Hf0_0_src]; · iexact Hf0_0_src
      iexact Hrf0_0
    iexists _; iexact HW

end Cert.Kernel.Gen

end
-- ==== Proof.KFrame.Frame.lean ====
/- The frame of the kernel as printed. -/
module

public import proofs.«01_k».proof.Proof.KFrame.RunE
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The region invariant before point `k`: the generator register at some state, the scratch the run takes whole at anything, and each ring
    before point `k`. -/
def PhiR (c : Dev nD) (k : ℕ) : sProp 𝕄 := iprop((∃ d, owns (c : Thread nD τ) scM0_0 fullShare d) ∗ (∃ r, prngReg c r) ∗ ringAt0_0 c (V m c main_arg0) k)

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant
    (`PhiR`: each ring's Lib/Ring.lean `Ring.At` before the point, beside the register and what the body takes whole);
    nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d))

set_option maxHeartbeats 4000000 in
/-- The body at any point: the inputs' memrefs hold their blocks (`before0_W`); the closed forms say which case the point is in (`by_cases`), an output the case reads before covering holds what the point before left (`before0_W_κ`); so the
    run applies; the invariant (`PhiR`) is rewritten, per case, to the ring pieces the point's role takes (Lib/Ring.lean `AtK2_here`, `At₀_eq2'`, …, by the case's step facts `rstepK_R_κ`) and reassembled from what the run hands back (`AtK2_next`, `AtK2_one'`, …; `Ring.with_homes`: no block is held apart); the core's `owes` goes in at whatever the points before recorded and comes back with this point's wait, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 20 := N_0
  have hN : t.val < 20 := lt_of_lt_of_eq t.isLt (show cfg0.N = 20 from N_0)
  by_cases h0 : t.val % 20 = 0
  · by_cases h1 : t.val % 5 = 0
    · by_cases h2 : t.val < 19
      · by_cases h3 : t.val % 5 = 4
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          have hr0 := rstep0_0_A t ((hcond0_0 t).mpr h0) ((hcond0_1 t).mpr h1) ((hcond0_2 t).mpr h2) (fun h => h3 ((hcond0_3 t).mp h))
          obtain ⟨hK00, hK10⟩ := hr0
          rw [if_pos hK00, if_neg (show ¬t.val + 1 = 0 by omega)]
          rw [Ring.At₀_eq2' _ _ _ t.val hK00 (by decide : 2 ≤ 20), Ring.AtK2_one' _ _ _ _ _ t.val hK00 (by decide : 1 < 20)]
          iintro ⟨⟨HS0, Hg, ⟨-, Hfr0_0_0, Hfr0_0_1⟩⟩, ⟨%W, -, HW⟩, ⟨%d0, H0⟩, ⟨%d1, H1⟩, ⟨%d2, H2⟩, ⟨%d3, H3⟩, ⟨%d4, H4⟩, ⟨%d5, H5⟩⟩
          iapply ((kernelRun0_A c t _ _ _ _ _ _ _ _ _ _ _ _ _ _ ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (V m c main_arg0)) W _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [Hfr0_0_0]; · iexact Hfr0_0_0
          isplitl [Hfr0_0_1]; · iexact Hfr0_0_1
          isplitl [HW]; · iexact HW
          iintro ⟨H0, H1, H2, H3, H4, H5, HS0, Hfl0_0', Hkp0_0', ⟨%W', HW'⟩⟩
          isplitl [HS0 Hg Hfl0_0' Hkp0_0']
          · isplitl [HS0]; · iexact HS0
            isplitl [Hg]; · iexact Hg
            iapply Ring.with_homes₀
            isplitl [Hfl0_0']; · iexact Hfl0_0'
            iexact Hkp0_0'
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          iexact H5
      · exfalso; omega
    · exfalso; omega
  · by_cases h1 : t.val % 5 = 0
    · by_cases h2 : t.val < 19
      · by_cases h3 : t.val % 5 = 4
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          have hr0 := rstep0_0_D t (fun h => h0 ((hcond0_0 t).mp h)) ((hcond0_1 t).mpr h1) ((hcond0_2 t).mpr h2) (fun h => h3 ((hcond0_3 t).mp h))
          obtain ⟨hK10, hKB0, hKs0⟩ := hr0
          rw [if_neg (show ¬t.val = 0 by omega), if_neg (show ¬t.val + 1 = 0 by omega)]
          rw [Ring.AtK2_here _ _ _ _ _ t.val hK10 hKB0, Ring.AtK2_next _ _ _ _ _ t.val hK10 hKB0]
          iintro ⟨⟨HS0, Hg, ⟨-, Hfl0_0, Hkp0_0⟩⟩, ⟨%W, -, HW⟩, ⟨%d0, H0⟩, ⟨%d1, H1⟩, ⟨%d2, H2⟩, ⟨%d3, H3⟩, ⟨%d4, H4⟩, ⟨%d5, H5⟩⟩
          iapply ((kernelRun0_D c t _ _ _ _ _ _ _ _ _ _ _ _ _ _ (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (V m c main_arg0)) W _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [Hfl0_0]; · iexact Hfl0_0
          isplitl [Hkp0_0]; · iexact Hkp0_0
          isplitl [HW]; · iexact HW
          iintro ⟨H0, H1, H2, H3, H4, H5, HS0, Hfl0_0', Hkp0_0', ⟨%W', HW'⟩⟩
          isplitl [HS0 Hg Hfl0_0' Hkp0_0']
          · isplitl [HS0]; · iexact HS0
            isplitl [Hg]; · iexact Hg
            iapply (Ring.with_homes (Idealize.SL.BI.Entails.refl _))
            isplitl [Hfl0_0']; · iexact Hfl0_0'
            iexact Hkp0_0'
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          iexact H5
      · exfalso; omega
    · by_cases h2 : t.val < 19
      · by_cases h3 : t.val % 5 = 4
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          have hr0 := rstep0_0_C t (fun h => h0 ((hcond0_0 t).mp h)) (fun h => h1 ((hcond0_1 t).mp h)) ((hcond0_2 t).mpr h2) ((hcond0_3 t).mpr h3)
          obtain ⟨hK10, hKB0, hKs0⟩ := hr0
          rw [if_neg (show ¬t.val = 0 by omega), if_neg (show ¬t.val + 1 = 0 by omega)]
          rw [Ring.AtK2_here _ _ _ _ _ t.val hK10 hKB0, Ring.AtK2_next _ _ _ _ _ t.val hK10 hKB0]
          iintro ⟨⟨HS0, Hg, ⟨-, Hfl0_0, Hkp0_0⟩⟩, ⟨%W, -, HW⟩, ⟨%d0, H0⟩, ⟨%d1, H1⟩, ⟨%d2, H2⟩, ⟨%d3, H3⟩, ⟨%d4, H4⟩, ⟨%d5, H5⟩⟩
          iapply ((kernelRun0_C c t _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (V m c main_arg0)) W _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [Hfl0_0]; · iexact Hfl0_0
          isplitl [Hkp0_0]; · iexact Hkp0_0
          isplitl [HW]; · iexact HW
          iintro ⟨H0, H1, H2, H3, H4, H5, HS0, Hfl0_0', Hkp0_0', ⟨%W', HW'⟩⟩
          isplitl [HS0 Hg Hfl0_0' Hkp0_0']
          · isplitl [HS0]; · iexact HS0
            isplitl [Hg]; · iexact Hg
            iapply (Ring.with_homes (Idealize.SL.BI.Entails.refl _))
            isplitl [Hfl0_0']; · iexact Hfl0_0'
            iexact Hkp0_0'
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          iexact H5
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          have hr0 := rstep0_0_B t (fun h => h0 ((hcond0_0 t).mp h)) (fun h => h1 ((hcond0_1 t).mp h)) ((hcond0_2 t).mpr h2) (fun h => h3 ((hcond0_3 t).mp h))
          obtain ⟨hK10, hKB0, hKs0⟩ := hr0
          rw [if_neg (show ¬t.val = 0 by omega), if_neg (show ¬t.val + 1 = 0 by omega)]
          rw [Ring.AtK2_here _ _ _ _ _ t.val hK10 hKB0, Ring.AtK2_next _ _ _ _ _ t.val hK10 hKB0]
          iintro ⟨⟨HS0, Hg, ⟨-, Hfl0_0, Hkp0_0⟩⟩, ⟨%W, -, HW⟩, ⟨%d0, H0⟩, ⟨%d1, H1⟩, ⟨%d2, H2⟩, ⟨%d3, H3⟩, ⟨%d4, H4⟩, ⟨%d5, H5⟩⟩
          iapply ((kernelRun0_B c t _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (V m c main_arg0)) W _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [Hfl0_0]; · iexact Hfl0_0
          isplitl [Hkp0_0]; · iexact Hkp0_0
          isplitl [HW]; · iexact HW
          iintro ⟨H0, H1, H2, H3, H4, H5, HS0, Hfl0_0', Hkp0_0', ⟨%W', HW'⟩⟩
          isplitl [HS0 Hg Hfl0_0' Hkp0_0']
          · isplitl [HS0]; · iexact HS0
            isplitl [Hg]; · iexact Hg
            iapply (Ring.with_homes (Idealize.SL.BI.Entails.refl _))
            isplitl [Hfl0_0']; · iexact Hfl0_0'
            iexact Hkp0_0'
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          iexact H5
      · by_cases h3 : t.val % 5 = 4
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          have hr0 := rstep0_0_E t (fun h => h0 ((hcond0_0 t).mp h)) (fun h => h1 ((hcond0_1 t).mp h)) (fun h => h2 ((hcond0_2 t).mp h)) ((hcond0_3 t).mpr h3)
          obtain ⟨hK10, hKB0, hKs0⟩ := hr0
          rw [if_neg (show ¬t.val = 0 by omega), if_neg (show ¬t.val + 1 = 0 by omega)]
          rw [Ring.AtK2_here_last _ _ _ _ _ t.val hK10 hKB0, Ring.AtK2_next_last _ _ _ _ _ t.val hK10 hKB0]
          iintro ⟨⟨HS0, Hg, ⟨-, Hfl0_0, Hkp0_0⟩⟩, ⟨%W, -, HW⟩, ⟨%d0, H0⟩, ⟨%d1, H1⟩, ⟨%d2, H2⟩, ⟨%d3, H3⟩, ⟨%d4, H4⟩, ⟨%d5, H5⟩⟩
          iapply ((kernelRun0_E c t _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (V m c main_arg0)) W _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [Hfl0_0]; · iexact Hfl0_0
          isplitl [HW]; · iexact HW
          iintro ⟨H0, H1, H2, H3, H4, H5, HS0, Hkp0_0', ⟨%W', HW'⟩⟩
          isplitl [HS0 Hg Hkp0_0 Hkp0_0']
          · isplitl [HS0]; · iexact HS0
            isplitl [Hg]; · iexact Hg
            iapply (Ring.with_homes (Idealize.SL.BI.Entails.refl _))
            isplitl [Hkp0_0]; · iexact Hkp0_0
            iexact Hkp0_0'
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          iexact H5
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦD`: the scratch, the register, the cells at zero, the HBM operands whole) is the
    invariant before the first point, and the invariant after the last point hands it back. -/
theorem hin (c : Dev nD) : Pipeline.ΦD osem0 spec0 H0 (V m) c ⊢ (dats m 0 c).Φ 0 := by
  rw [PhiD0_eq, show (dats m 0 c).Φ 0 = PhiR m c 0 from rfl]
  unfold PhiR
  iintro ⟨⟨HR0_0, HS0⟩, Hg, ⟨Hq0, Hq1⟩, Hh0⟩
  isplitl [HS0]; · iexact HS0
  isplitl [Hg]; · iexact Hg
  iapply (ring0_0_in (F := F) m c)
  isplitl [HR0_0]; · iexact HR0_0
  isplitl [Hq0 Hq1]
  · isplitl [Hq0]; · iexact Hq0
    iexact Hq1
  iexact Hh0
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 20 by rw [N_0]]
  iintro ⟨HS0, Hg, HR0_0⟩
  ihave HX0_0 := (ring0_0_out (F := F) m c) $$ HR0_0
  icases HX0_0 with ⟨HR0_0, ⟨Hq0, Hq1⟩, Hh0⟩
  isplitl [HS0 HR0_0]
  · isplitl [HR0_0]; · iexact HR0_0
    iexact HS0
  isplitl [Hg]
  · iexact Hg
  isplitl [Hq0 Hq1]
  · isplitl [Hq0]; · iexact Hq0
    iexact Hq1
  iexact Hh0

/-! ## The run and the frame -/

-- `θ_run_frame_dma_forget`'s implicit arguments are found by unifying its conclusion with this one, which takes unfolding plain
-- definitions in a metavariable's type
set_option backward.isDefEq.respectTransparency.types false in
/-- The launch: `run_main`, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.Body.Setup.lean ====
/- What the runs of the kernel's body share: its branch conditions over the grid points, the staging and scratch
   memrefs, and the two-slot ring its own transfers go through, with the ring's invariant before each point. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — decided over the grid. -/
theorem hcond0_0 : ∀ t : Fin cfg0.N, cond0_0 (grid0.coords t) ↔ t.val % 20 = 0 :=
  (by decide +kernel : ∀ t : Fin grid0.N, cond0_0 (grid0.coords t) ↔ t.val % 20 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 5) — by arithmetic of the point. -/
theorem hcond0_1 : ∀ t : Fin cfg0.N, cond0_1 (grid0.coords t) ↔ t.val % 5 = 0 :=
  (fun t => by
    have ht : t.val < 20 := Nat.lt_of_lt_of_eq t.isLt N_0
    have e0 : (grid0.coords t 0).val = t.val / 5 % 4 := Pipeline.Grid.coords_val t 0 (by decide) rfl
    have e1 : (grid0.coords t 1).val = t.val / 1 % 5 := Pipeline.Grid.coords_val t 1 (by decide) rfl
    simp only [cond0_1, e0, e1]
    word_cmp
   : ∀ t : Fin grid0.N, cond0_1 (grid0.coords t) ↔ t.val % 5 = 0)

/-- The condition of the body's `scf.if` 2 (`k0_h3`), from the grid coordinates (the skeleton's scalar
    chain substituted). -/
abbrev cond0_2 (i : grid0.Coords) : Prop := k0_cond3 i = 1#1
/-- It holds at the points before point 19 — decided over the grid. -/
theorem hcond0_2 : ∀ t : Fin cfg0.N, cond0_2 (grid0.coords t) ↔ t.val < 19 :=
  (by decide +kernel : ∀ t : Fin grid0.N, cond0_2 (grid0.coords t) ↔ t.val < 19)

/-- The condition of the body's `scf.if` 3 (`k0_h4`), from the grid coordinates (the skeleton's scalar
    chain substituted). -/
abbrev cond0_3 (i : grid0.Coords) : Prop := k0_cond4 i = 1#1
/-- It holds at the points ≡ 4 (mod 5) — by arithmetic of the point. -/
theorem hcond0_3 : ∀ t : Fin cfg0.N, cond0_3 (grid0.coords t) ↔ t.val % 5 = 4 :=
  (fun t => by
    have ht : t.val < 20 := Nat.lt_of_lt_of_eq t.isLt N_0
    have e0 : (grid0.coords t 0).val = t.val / 5 % 4 := Pipeline.Grid.coords_val t 0 (by decide) rfl
    have e1 : (grid0.coords t 1).val = t.val / 1 % 5 := Pipeline.Grid.coords_val t 1 (by decide) rfl
    simp only [cond0_3, k0_cond4, e0, e1]
    word_cmp
   : ∀ t : Fin grid0.N, cond0_3 (grid0.coords t) ↔ t.val % 5 = 4)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- What holds of the body's skeleton holds of it with its parts written out. -/
theorem loss_body_parts (P : Prog (TpuEff nD τ sig (Elt F) Λ₀ .tc) PUnit → Prop) (i : grid0.Coords) (arg2 : Memref sig .tc .hbm S4x50000x80 .f32) (harg2 : arg2.IsWhole) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (arg10 : Memref sig .tc .vmem S2x10000x80 .f32) (harg10 : arg10.IsWhole) (arg11 : DmaSems sig S2)
    (h : P (cc0__loss_body (F := F) i arg2 harg2 arg3 harg3 arg4 harg4 arg5 harg5 arg6 harg6 arg7 harg7 arg8 harg8 arg9 harg9 arg10 harg10 arg11)) : P (cc0__loss_body_skel (F := F) i arg2 harg2 arg3 harg3 arg4 harg4 arg5 harg5 arg6 harg6 arg7 harg7 arg8 harg8 arg9 harg9 arg10 harg10 arg11) := by
  unfold cc0__loss_body_skel
  simp only [cc0__loss_body_eq_skeleton] at h; unfold cc0__loss_body_skel at h
  simp only [k0_part1_eq_skeleton, k0_part2_eq_skeleton, k0_part3_eq_skeleton, k0_part4_eq_skeleton, k0_part5_eq_skeleton, k0_part6_eq_skeleton] at h ⊢
  exact h

/-! ## The kernel body on any staging memrefs: a subtype the run finds -/

/-- Each window's current staging memref at point `t`, spelled as the pipeline passes it (`bodyAt0`), and its wholeness. -/
abbrev ms0_0 (t : Fin cfg0.N) : Memref sig .tc .vmem S1x1x4x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S2 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .smem S3 .f32 := Memref.whole cc0_scratch0
abbrev scM0_1 : Memref sig .tc .vmem S2x10000x80 .f32 := Memref.whole cc0_scratch1
/-- The operands left in HBM that the body copies into scratch itself, whole. -/
abbrev hbM0_0 : Memref sig .tc .hbm S4x50000x80 .f32 := Memref.whole main_arg0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 11, SemLoc.dma 12] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 11) 0 ∗ semVal ((c : Thread nD τ), SemLoc.dma 12) 0) := by
  rw [Pipeline.ownSems0_eq_of_list c osem0 [0, 1] (by decide) (by decide)]; rfl
/-- The HBM operands the body moves, as references: unscoped, no window's array (`Pipeline.restRefs`). -/
def H0 : Finset (Ref sig .tc) := {main_arg0}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_1 fullShare d) ∗ (∃ d, owns (c : Thread nD τ) scM0_0 fullShare d)) ∗ (∃ r, prngReg c r) ∗ iprop(semVal ((c : Thread nD τ), SemLoc.dma 11) 0 ∗ semVal ((c : Thread nD τ), SemLoc.dma 12) 0) ∗ iprop(hbPt0 c hbM0_0 (V m c main_arg0))) := by
  rw [Pipeline.ΦD_eq, scopedRest0_eq, ownSems00_eq, hbmPts0_eq]; simp only [scM0_0, scM0_1, owns_whole]; try rfl

/-! ## Ring 0 of kernel 0: `main_arg0` streamed through the 2 slots of `cc0_scratch1` on the cells of `cc0_scratch2`, 1 block ahead, in 20 steps -/

instance : NeZero grid0.N := ⟨by rw [N_0]; decide⟩
theorem inb_slot0_0 (s : Fin 2) : ∀ a, (![s.val, 0, 0] : Fin 3 → Nat) a + S1x10000x80.size a ≤ S2x10000x80.size a := by
  have := s.isLt; intro a; fin_cases a <;> simp <;> omega
theorem inb_src0_0 (b : Fin 20) : ∀ a, (![(b.val / 5), 10000 * (b.val % 5), 0] : Fin 3 → Nat) a + S1x10000x80.size a ≤ S4x50000x80.size a := by
  have := b.isLt; intro a; fin_cases a <;> simp <;> omega
theorem inb_cell0_0 (s : Fin 2) : ∀ a, (![s.val] : Fin 1 → Nat) a + S1.size a ≤ S2.size a := by
  have := s.isLt; intro a; fin_cases a <;> simp <;> omega
/-- Slot `s` of the ring, spelt as the body's transfers spell their destination, at offsets in `s`. -/
def rslot0_0 (s : Fin 2) : Memref sig .tc .vmem S10000x80 .f32 :=
  (scM0_1.slice (Rect.unit (s := S2x10000x80) ![s.val, 0, 0] S1x10000x80.size (inb_slot0_0 s)) (fun _ => rfl)).squeeze S10000x80 squeezes_S1x10000x80_S10000x80
/-- Block `b` of the operand (the block step `b` waits), spelt as the transfers spell their source, at offsets in `b`. -/
def srcB0_0 (b : Fin 20) : Memref sig .tc .hbm S10000x80 .f32 :=
  (hbM0_0.slice (Rect.unit (s := S4x50000x80) ![(b.val / 5), 10000 * (b.val % 5), 0] S1x10000x80.size (inb_src0_0 b)) (fun _ => rfl)).squeeze S10000x80 squeezes_S1x10000x80_S10000x80
/-- Cell `s` of `cc0_scratch2`, spelt as the body spells a cell; its number in the pool. -/
def cellA0_0 (s : Fin 2) : DmaSems sig S_ := (cc0_scratch2.slice (Rect.unit (s := S2) ![s.val] S1.size (inb_cell0_0 s))).squeeze S_ squeezes_S1_S_
abbrev cellR0_0 (s : Fin 2) : SemLoc sig := SemLoc.dma (cellA0_0 s).sem
theorem cellR0_0_0 : cellR0_0 0 = SemLoc.dma 11 := by decide
theorem cellR0_0_1 : cellR0_0 1 = SemLoc.dma 12 := by decide

section Ring0_0
variable (c : Dev nD) (W : HbBuf0 (F := F) c hbM0_0)
/-- The operand is lent BY SHARE, one read-share copy of it per slot (the left and right halves of the full share): whatever
    blocks two transfers in flight stream — the same one twice, two that overlap —, each borrows from its own slot's copy. -/
abbrev qs0_0 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f` (the executor's listed write); the FLIGHT of block `b` into slot `s`, delivering the slot landed
    and the lent elements back. -/
abbrev slotP0_0 (s : Fin 2) (f : HbBuf0 (F := F) c (rslot0_0 s)) : sProp 𝕄 := (rslot0_0 s).view.loc (c : Thread nD τ) ↦[(rslot0_0 s).view.set]{fullShare} f
abbrev cellP0_0 (s : Fin 2) : sProp 𝕄 := semVal ((c : Thread nD τ), cellR0_0 s) 0
abbrev srcP0_0 (s : Fin 2) (b : Fin 20) : sProp 𝕄 := (srcB0_0 b).view.loc (c : Thread nD τ) ↦[(srcB0_0 b).view.set]{qs0_0 s} W
/-- (a `def`: no run reads this rest, and folded it stays out of the executor's table of held buffers) -/
def restP0_0 (s : Fin 2) (b : Fin 20) : sProp 𝕄 := ((c : Thread nD τ).loc main_arg0) ↦[Finset.univ \ (srcB0_0 b).view.set]{qs0_0 s} W
abbrev wholeP0_0 (s : Fin 2) : sProp 𝕄 := ((c : Thread nD τ).loc main_arg0) ↦[Finset.univ]{qs0_0 s} W
abbrev landed0_0 (s : Fin 2) (b : Fin 20) (f : HbBuf0 (F := F) c (rslot0_0 s)) : HbBuf0 (F := F) c (rslot0_0 s) :=
  (rslot0_0 s).view.writes (Elt F) f [⟨Rect.whole S10000x80, ReadAs.same.apply ((srcB0_0 b).view.read (Elt F) W)⟩]
abbrev flightP0_0 (s : Fin 2) (b : Fin 20) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 2) (f : HbBuf0 (F := F) c (rslot0_0 s)) : sProp 𝕄 := iprop(slotP0_0 c s f ∗ wholeP0_0 c W s)
abbrev flightW0_0 (s : Fin 2) (b : Fin 20) (f : HbBuf0 (F := F) c (rslot0_0 s)) : sProp 𝕄 := iprop(flightP0_0 c W s b f ∗ restP0_0 c W s b)
abbrev noHome0_0 (b : Fin 20) : sProp 𝕄 := iprop(emp)
/-- The ring before its step `k` : every slot free before the first; from then on block `k` in flight
    into slot `k`, slot `k + 1` KEEPING block `k - 1` (landed, readable) until the step starts block `k + 1` over it. -/
def ringAt0_0 (k : ℕ) : sProp 𝕄 :=
  if k = 0 then Ring.At₀ (cellP0_0 c) (slotW0_0 c W) noHome0_0
  else Ring.AtK 1 (cellP0_0 c) (slotW0_0 c W) noHome0_0 (flightW0_0 c W) (landed0_0 c W) k
omit [FloatOps F] in
theorem cellP0_0_0 : cellP0_0 (F := F) c 0 = semVal ((c : Thread nD τ), SemLoc.dma 11) 0 := congrArg (fun x => (semVal ((c : Thread nD τ), x) 0 : sProp 𝕄)) cellR0_0_0
omit [FloatOps F] in
theorem cellP0_0_1 : cellP0_0 (F := F) c 1 = semVal ((c : Thread nD τ), SemLoc.dma 12) 0 := congrArg (fun x => (semVal ((c : Thread nD τ), x) 0 : sProp 𝕄)) cellR0_0_1
end Ring0_0

/-! ### The slots, disjoint and covering the scratch  -/

abbrev slotSet0_0 (s : Fin 2) : Finset S2x10000x80.Idx := (Rect.unit (s := S2x10000x80) ![s.val, 0, 0] S1x10000x80.size (inb_slot0_0 s)).set
theorem slotSet0_0_eq (s : Fin 2) : (rslot0_0 s).view.set = slotSet0_0 s := by
  simp only [rslot0_0, Memref.view_squeeze, View.set_reshape]; exact View.set_slice_whole _ _
theorem slots0_0_disjoint (s s' : Fin 2) (h : s ≠ s') : Disjoint (slotSet0_0 s) (slotSet0_0 s') :=
  Ring.lead_disjoint (s := S2x10000x80) (0 : Fin 3) 1 (fun s : Fin 2 => (![s.val, 0, 0] : Fin 3 → Nat)) S1x10000x80.size inb_slot0_0 (fun s => by simp) rfl s s' h
theorem slots0_0_cover : Finset.univ.biUnion slotSet0_0 = Finset.univ :=
  Ring.lead_cover (s := S2x10000x80) (0 : Fin 3) 1 (fun s : Fin 2 => (![s.val, 0, 0] : Fin 3 → Nat)) S1x10000x80.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 2) (f) : slotP0_0 (F := F) c s f = (((c : Thread nD τ).loc cc0_scratch1) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 2) (b : Fin 20) : wholeP0_0 (F := F) c W s ⊣⊢ iprop(srcP0_0 c W s b ∗ restP0_0 c W s b) := by
  unfold restP0_0; exact pointsTo_split_subset (Finset.subset_univ _)
/-- the operand whole at the full share is the two copies. -/
theorem whole0_0_split : (hbPt0 c hbM0_0 W : sProp 𝕄) ⊣⊢ iprop(wholeP0_0 c W 0 ∗ wholeP0_0 c W 1) :=
  pointsTo_share (PosShare.mem_left_op_right fullShare)
set_option maxHeartbeats 1000000 in
/-- the scratch whole at anything is its slots at something each, and back. -/
theorem slots0_0_in : iprop(∃ d, owns (c : Thread nD τ) scM0_1 fullShare d) ⊢ (iprop((∃ f, slotP0_0 (F := F) c 0 f) ∗ ∃ f, slotP0_0 (F := F) c 1 f) : sProp 𝕄) := by
  simp only [scM0_1, owns_whole]
  exact Ring.slots2_split (U := Pipeline.UD sig nD τ) (ℓ := (c : Thread nD τ).loc cc0_scratch1) (q := fullShare) slotSet0_0 slots0_0_disjoint slots0_0_cover
    (slotP0_0 c 0) (slotP0_0 c 1) (slotP0_0_eq c 0) (slotP0_0_eq c 1)
set_option maxHeartbeats 1000000 in
theorem slots0_0_out : (iprop((∃ f, slotP0_0 (F := F) c 0 f) ∗ ∃ f, slotP0_0 (F := F) c 1 f) : sProp 𝕄) ⊢ iprop(∃ d, owns (c : Thread nD τ) scM0_1 fullShare d) := by
  simp only [scM0_1, owns_whole]
  exact Ring.slots2_join (U := Pipeline.UD sig nD τ) (ℓ := (c : Thread nD τ).loc cc0_scratch1) (q := fullShare) slotSet0_0 slots0_0_disjoint slots0_0_cover
    (slotP0_0 c 0) (slotP0_0 c 1) (slotP0_0_eq c 0) (slotP0_0_eq c 1)
end InOut0_0

/-- INTO THE RING: the launch's pieces — the scratch whole, the cells at zero, the operand whole — are the ring before its first step; -/
theorem ring0_0_in (c : Dev nD) :
    iprop((∃ d, owns (c : Thread nD τ) scM0_1 fullShare d) ∗ (semVal ((c : Thread nD τ), SemLoc.dma 11) 0 ∗ semVal ((c : Thread nD τ), SemLoc.dma 12) 0) ∗ hbPt0 c hbM0_0 (V m c main_arg0))
      ⊢ ringAt0_0 c (V m c main_arg0) 0 := by
  unfold ringAt0_0; rw [if_pos rfl]; unfold Ring.At₀
  rw [Ring.bigSep_fin2]
  simp only [Ring.free, cellP0_0_0, cellP0_0_1]
  iintro ⟨HS, Hc, HW⟩
  iapply Ring.with_homes₀
  icases Hc with ⟨H0, H1⟩
  ihave HS' := (slots0_0_in (F := F) c) $$ HS
  icases HS' with ⟨⟨%d0, HS0⟩, ⟨%d1, HS1⟩⟩
  ihave HW' := (whole0_0_split (F := F) c (V m c main_arg0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring0_0_out (c : Dev nD) :
    ringAt0_0 c (V m c main_arg0) 20
      ⊢ iprop((∃ d, owns (c : Thread nD τ) scM0_1 fullShare d) ∗ (semVal ((c : Thread nD τ), SemLoc.dma 11) 0 ∗ semVal ((c : Thread nD τ), SemLoc.dma 12) 0) ∗ hbPt0 c hbM0_0 (V m c main_arg0)) := by
  unfold ringAt0_0; rw [if_neg (by decide)]
  iintro H
  ihave H' := (Ring.free2_of_AtK_last _ _ _ _ _) $$ H
  simp only [Ring.free, cellP0_0_0, cellP0_0_1]
  icases H' with ⟨-, ⟨H0, ⟨%f0, HS0, HW0⟩⟩, ⟨H1, ⟨%f1, HS1, HW1⟩⟩⟩
  isplitl [HS0 HS1]
  · iapply (slots0_0_out (F := F) c); isplitl [HS0]; · iexists f0; iexact HS0
    iexists f1; iexact HS1
  isplitl [H0 H1]
  · isplitl [H0]; · iexact H0
    iexact H1
  · iapply (whole0_0_split (F := F) c (V m c main_arg0)).2; isplitl [HW0]; · iexact HW0
    iexact HW1

/-! ### Ring 0's steps at each case's points, and its canonical names: the body's operands at point `t` are the ring's slots, blocks and cells -/

section Canon0_0
omit [FloatOps F]
/-- At the points of case A the ring takes its FIRST step. -/
theorem rstep0_0_A : ∀ t : Fin grid0.N, cond0_0 (grid0.coords t) → cond0_1 (grid0.coords t) → cond0_2 (grid0.coords t) → ¬cond0_3 (grid0.coords t) → t.val = 0 ∧ (t.val + 1) = 1 := by decide +kernel
/-- At the points of case B the ring takes a step, a block still to start. -/
theorem rstep0_0_B : ∀ t : Fin grid0.N, ¬cond0_0 (grid0.coords t) → ¬cond0_1 (grid0.coords t) → cond0_2 (grid0.coords t) → ¬cond0_3 (grid0.coords t) → 1 ≤ t.val ∧ t.val + 1 < 20 ∧ (t.val + 1) = t.val + 1 := by decide +kernel
/-- At the points of case C the ring takes a step, a block still to start. -/
theorem rstep0_0_C : ∀ t : Fin grid0.N, ¬cond0_0 (grid0.coords t) → ¬cond0_1 (grid0.coords t) → cond0_2 (grid0.coords t) → cond0_3 (grid0.coords t) → 1 ≤ t.val ∧ t.val + 1 < 20 ∧ (t.val + 1) = t.val + 1 := by decide +kernel
/-- At the points of case D the ring takes a step, a block still to start. -/
theorem rstep0_0_D : ∀ t : Fin grid0.N, ¬cond0_0 (grid0.coords t) → cond0_1 (grid0.coords t) → cond0_2 (grid0.coords t) → ¬cond0_3 (grid0.coords t) → 1 ≤ t.val ∧ t.val + 1 < 20 ∧ (t.val + 1) = t.val + 1 := by decide +kernel
/-- At the points of case E the ring takes its LAST step. -/
theorem rstep0_0_E : ∀ t : Fin grid0.N, ¬cond0_0 (grid0.coords t) → ¬cond0_1 (grid0.coords t) → ¬cond0_2 (grid0.coords t) → cond0_3 (grid0.coords t) → 1 ≤ t.val ∧ t.val + 1 = 20 ∧ (t.val + 1) = t.val + 1 := by decide +kernel
set_option synthInstance.maxSize 4096 in
theorem coff0_0_1 : ∀ t : Fin grid0.N, cond0_0 (grid0.coords t) → cond0_1 (grid0.coords t) → cond0_2 (grid0.coords t) → ¬cond0_3 (grid0.coords t) → (![0, 0, 0] : Fin 3 → Nat) = ![(Ring.sl 2 t.val).val, 0, 0] := by decide +kernel
@[sl_canon] theorem canon0_0_1 (t : Fin grid0.N) (h0 : cond0_0 (grid0.coords t)) (h1 : cond0_1 (grid0.coords t)) (h2 : cond0_2 (grid0.coords t)) (h3 : ¬cond0_3 (grid0.coords t)) :
    (scM0_1.slice (Rect.unit (s := S2x10000x80) ![0, 0, 0] S1x10000x80.size inb_S2x10000x80_S1x10000x80_0_0_0) (fun _ => rfl)).squeeze S10000x80 squeezes_S1x10000x80_S10000x80 = rslot0_0 (Ring.sl 2 t.val) :=
  congrArg (fun M : Memref sig .tc .vmem S1x10000x80 .f32 => M.squeeze S10000x80 squeezes_S1x10000x80_S10000x80) (Memref.slice_unit_congr _ (coff0_0_1 t h0 h1 h2 h3) _ _ (fun _ => rfl) (fun _ => rfl))
set_option synthInstance.maxSize 4096 in
theorem coff0_0_2 : ∀ t : Fin grid0.N, cond0_0 (grid0.coords t) → cond0_1 (grid0.coords t) → cond0_2 (grid0.coords t) → ¬cond0_3 (grid0.coords t) → (![0] : Fin 1 → Nat) = ![(Ring.sl 2 t.val).val] := by decide +kernel
@[sl_canon] theorem canon0_0_2 (t : Fin grid0.N) (h0 : cond0_0 (grid0.coords t)) (h1 : cond0_1 (grid0.coords t)) (h2 : cond0_2 (grid0.coords t)) (h3 : ¬cond0_3 (grid0.coords t)) :
    (cc0_scratch2.slice (Rect.unit (s := S2) ![0] S1.size inb_S2_S1_0)).squeeze S_ squeezes_S1_S_ = cellA0_0 (Ring.sl 2 t.val) :=
  congrArg (fun A : DmaSems sig S1 => A.squeeze S_ squeezes_S1_S_) (SemArray.slice_unit_congr _ (coff0_0_2 t h0 h1 h2 h3) _ _)
set_option synthInstance.maxSize 4096 in
theorem coff0_0_3 : ∀ t : Fin grid0.N, cond0_0 (grid0.coords t) → cond0_1 (grid0.coords t) → cond0_2 (grid0.coords t) → ¬cond0_3 (grid0.coords t) → (![0, 0, 0] : Fin 3 → Nat) = ![((Ring.bk 20 t.val).val / 5), 10000 * ((Ring.bk 20 t.val).val % 5), 0] := by decide +kernel
@[sl_canon] theorem canon0_0_3 (t : Fin grid0.N) (h0 : cond0_0 (grid0.coords t)) (h1 : cond0_1 (grid0.coords t)) (h2 : cond0_2 (grid0.coords t)) (h3 : ¬cond0_3 (grid0.coords t)) :
    (hbM0_0.slice (Rect.unit (s := S4x50000x80) ![0, 0, 0] S1x10000x80.size inb_S4x50000x80_S1x10000x80_0_0_0) (fun _ => rfl)).squeeze S10000x80 squeezes_S1x10000x80_S10000x80 = srcB0_0 (Ring.bk 20 t.val) :=
  congrArg (fun M : Memref sig .tc .hbm S1x10000x80 .f32 => M.squeeze S10000x80 squeezes_S1x10000x80_S10000x80) (Memref.slice_unit_congr _ (coff0_0_3 t h0 h1 h2 h3) _ _ (fun _ => rfl) (fun _ => rfl))
set_option synthInstance.maxSize 4096 in
theorem coff0_0_4 : ∀ t : Fin grid0.N, k0_off2 (grid0.coords t) = ![(Ring.sl 2 (t.val + 1)).val, 0, 0] := by decide +kernel
@[sl_canon] theorem canon0_0_4 (t : Fin grid0.N) (h2 : cond0_2 (grid0.coords t)) :
    (scM0_1.slice (Rect.unit (s := S2x10000x80) (k0_off2 (grid0.coords t)) S1x10000x80.size (k0_off2_inb (grid0.coords t) h2)) (fun _ => rfl)).squeeze S10000x80 squeezes_S1x10000x80_S10000x80 = rslot0_0 (Ring.sl 2 (t.val + 1)) :=
  congrArg (fun M : Memref sig .tc .vmem S1x10000x80 .f32 => M.squeeze S10000x80 squeezes_S1x10000x80_S10000x80) (Memref.slice_unit_congr _ (coff0_0_4 t ) _ _ (fun _ => rfl) (fun _ => rfl))
set_option synthInstance.maxSize 4096 in
theorem coff0_0_5 : ∀ t : Fin grid0.N, k0_off1 (grid0.coords t) = ![(Ring.sl 2 (t.val + 1)).val] := by decide +kernel
@[sl_canon] theorem canon0_0_5 (t : Fin grid0.N) (h2 : cond0_2 (grid0.coords t)) :
    (cc0_scratch2.slice (Rect.unit (s := S2) (k0_off1 (grid0.coords t)) S1.size (k0_off1_inb (grid0.coords t) h2))).squeeze S_ squeezes_S1_S_ = cellA0_0 (Ring.sl 2 (t.val + 1)) :=
  congrArg (fun A : DmaSems sig S1 => A.squeeze S_ squeezes_S1_S_) (SemArray.slice_unit_congr _ (coff0_0_5 t ) _ _)
set_option synthInstance.maxSize 4096 in
theorem coff0_0_6 : ∀ t : Fin grid0.N, cond0_0 (grid0.coords t) → cond0_1 (grid0.coords t) → cond0_2 (grid0.coords t) → ¬cond0_3 (grid0.coords t) → k0_off3 (grid0.coords t) = ![((Ring.bk 20 (t.val + 1)).val / 5), 10000 * ((Ring.bk 20 (t.val + 1)).val % 5), 0] := by decide +kernel
@[sl_canon] theorem canon0_0_6 (t : Fin grid0.N) (h0 : cond0_0 (grid0.coords t)) (h1 : cond0_1 (grid0.coords t)) (h2 : cond0_2 (grid0.coords t)) (h3 : ¬cond0_3 (grid0.coords t)) :
    (hbM0_0.slice (Rect.unit (s := S4x50000x80) (k0_off3 (grid0.coords t)) S1x10000x80.size (k0_off3_inb (grid0.coords t) h2)) (fun _ => rfl)).squeeze S10000x80 squeezes_S1x10000x80_S10000x80 = srcB0_0 (Ring.bk 20 (t.val + 1)) :=
  congrArg (fun M : Memref sig .tc .hbm S1x10000x80 .f32 => M.squeeze S10000x80 squeezes_S1x10000x80_S10000x80) (Memref.slice_unit_congr _ (coff0_0_6 t h0 h1 h2 h3) _ _ (fun _ => rfl) (fun _ => rfl))
set_option synthInstance.maxSize 4096 in
theorem coff0_0_7 : ∀ t : Fin grid0.N, k0_off5 (grid0.coords t) = ![(Ring.sl 2 t.val).val, 0, 0] := by decide +kernel
@[sl_canon] theorem canon0_0_7 (t : Fin grid0.N) :
    (scM0_1.slice (Rect.unit (s := S2x10000x80) (k0_off5 (grid0.coords t)) S1x10000x80.size (k0_off5_inb (grid0.coords t))) (fun _ => rfl)).squeeze S10000x80 squeezes_S1x10000x80_S10000x80 = rslot0_0 (Ring.sl 2 t.val) :=
  congrArg (fun M : Memref sig .tc .vmem S1x10000x80 .f32 => M.squeeze S10000x80 squeezes_S1x10000x80_S10000x80) (Memref.slice_unit_congr _ (coff0_0_7 t ) _ _ (fun _ => rfl) (fun _ => rfl))
set_option synthInstance.maxSize 4096 in
theorem coff0_0_8 : ∀ t : Fin grid0.N, k0_off4 (grid0.coords t) = ![(Ring.sl 2 t.val).val] := by decide +kernel
@[sl_canon] theorem canon0_0_8 (t : Fin grid0.N) :
    (cc0_scratch2.slice (Rect.unit (s := S2) (k0_off4 (grid0.coords t)) S1.size (k0_off4_inb (grid0.coords t)))).squeeze S_ squeezes_S1_S_ = cellA0_0 (Ring.sl 2 t.val) :=
  congrArg (fun A : DmaSems sig S1 => A.squeeze S_ squeezes_S1_S_) (SemArray.slice_unit_congr _ (coff0_0_8 t ) _ _)
set_option synthInstance.maxSize 4096 in
theorem coff0_0_9 : ∀ t : Fin grid0.N, ¬cond0_0 (grid0.coords t) → ¬cond0_1 (grid0.coords t) → cond0_2 (grid0.coords t) → ¬cond0_3 (grid0.coords t) → k0_off3 (grid0.coords t) = ![((Ring.bk 20 (t.val + 1)).val / 5), 10000 * ((Ring.bk 20 (t.val + 1)).val % 5), 0] := by decide +kernel
@[sl_canon] theorem canon0_0_9 (t : Fin grid0.N) (h0 : ¬cond0_0 (grid0.coords t)) (h1 : ¬cond0_1 (grid0.coords t)) (h2 : cond0_2 (grid0.coords t)) (h3 : ¬cond0_3 (grid0.coords t)) :
    (hbM0_0.slice (Rect.unit (s := S4x50000x80) (k0_off3 (grid0.coords t)) S1x10000x80.size (k0_off3_inb (grid0.coords t) h2)) (fun _ => rfl)).squeeze S10000x80 squeezes_S1x10000x80_S10000x80 = srcB0_0 (Ring.bk 20 (t.val + 1)) :=
  congrArg (fun M : Memref sig .tc .hbm S1x10000x80 .f32 => M.squeeze S10000x80 squeezes_S1x10000x80_S10000x80) (Memref.slice_unit_congr _ (coff0_0_9 t h0 h1 h2 h3) _ _ (fun _ => rfl) (fun _ => rfl))
set_option synthInstance.maxSize 4096 in
theorem coff0_0_10 : ∀ t : Fin grid0.N, ¬cond0_0 (grid0.coords t) → ¬cond0_1 (grid0.coords t) → cond0_2 (grid0.coords t) → cond0_3 (grid0.coords t) → k0_off3 (grid0.coords t) = ![((Ring.bk 20 (t.val + 1)).val / 5), 10000 * ((Ring.bk 20 (t.val + 1)).val % 5), 0] := by decide +kernel
@[sl_canon] theorem canon0_0_10 (t : Fin grid0.N) (h0 : ¬cond0_0 (grid0.coords t)) (h1 : ¬cond0_1 (grid0.coords t)) (h2 : cond0_2 (grid0.coords t)) (h3 : cond0_3 (grid0.coords t)) :
    (hbM0_0.slice (Rect.unit (s := S4x50000x80) (k0_off3 (grid0.coords t)) S1x10000x80.size (k0_off3_inb (grid0.coords t) h2)) (fun _ => rfl)).squeeze S10000x80 squeezes_S1x10000x80_S10000x80 = srcB0_0 (Ring.bk 20 (t.val + 1)) :=
  congrArg (fun M : Memref sig .tc .hbm S1x10000x80 .f32 => M.squeeze S10000x80 squeezes_S1x10000x80_S10000x80) (Memref.slice_unit_congr _ (coff0_0_10 t h0 h1 h2 h3) _ _ (fun _ => rfl) (fun _ => rfl))
set_option synthInstance.maxSize 4096 in
theorem coff0_0_11 : ∀ t : Fin grid0.N, ¬cond0_0 (grid0.coords t) → cond0_1 (grid0.coords t) → cond0_2 (grid0.coords t) → ¬cond0_3 (grid0.coords t) → k0_off3 (grid0.coords t) = ![((Ring.bk 20 (t.val + 1)).val / 5), 10000 * ((Ring.bk 20 (t.val + 1)).val % 5), 0] := by decide +kernel
@[sl_canon] theorem canon0_0_11 (t : Fin grid0.N) (h0 : ¬cond0_0 (grid0.coords t)) (h1 : cond0_1 (grid0.coords t)) (h2 : cond0_2 (grid0.coords t)) (h3 : ¬cond0_3 (grid0.coords t)) :
    (hbM0_0.slice (Rect.unit (s := S4x50000x80) (k0_off3 (grid0.coords t)) S1x10000x80.size (k0_off3_inb (grid0.coords t) h2)) (fun _ => rfl)).squeeze S10000x80 squeezes_S1x10000x80_S10000x80 = srcB0_0 (Ring.bk 20 (t.val + 1)) :=
  congrArg (fun M : Memref sig .tc .hbm S1x10000x80 .f32 => M.squeeze S10000x80 squeezes_S1x10000x80_S10000x80) (Memref.slice_unit_congr _ (coff0_0_11 t h0 h1 h2 h3) _ _ (fun _ => rfl) (fun _ => rfl))
set_option synthInstance.maxSize 4096 in
theorem coff0_0_12 : ∀ t : Fin grid0.N, k0_off7 (grid0.coords t) = ![(Ring.sl 2 t.val).val, 0, 0] := by decide +kernel
/-- The ring-memref load's box in the slot's spelling (the block this step waited): the executor's symbolic geometry then sees it inside that slot. -/
instance (priority := high) closedOff0_0_12 (t : Fin grid0.N) : ClosedOff (k0_off7 (grid0.coords t)) := ⟨![(Ring.sl 2 t.val).val, 0, 0], coff0_0_12 t⟩
end Canon0_0

end Cert.KernelIdeal.Body

end
-- ==== Proof.Body.RunA.lean ====
/- The run of the kernel's body at the first point. -/
module

public import proofs.«01_k».proof.Proof.Body.Setup

@[expose] public section

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's run at the first point: on whole staging memrefs holding their blocks it ends with them as they were, the ring
    moved on by one point, and the accumulator and the output at the pieces this definition finds. -/
noncomputable def kernelRun0_A (c : Dev nD) (t : Fin cfg0.N) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (hc0 : cond0_0 (grid0.coords t)) (hc1 : cond0_1 (grid0.coords t)) (hc2 : cond0_2 (grid0.coords t)) (hc3 : ¬cond0_3 (grid0.coords t))
    (x0 : Vec F S1x1x4x10000 .f32) (x1 : Vec F S1x1x4x10000 .f32) (x2 : Vec F S1x32x4 .f32) (x3 : Vec F S1x4x32 .f32) (x4 : Vec F S1x32x1 .f32) (fh0 : HbBuf0 (F := F) c hbM0_0) :
    Σ' (L5 : List (View.Piece (Elt F) S2 .f32)), { LS0 : List (View.Piece (Elt F) S3 .f32) //
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ Ring.free (cellP0_0 c) (slotW0_0 c fh0) (Ring.sl 2 t.val) ∗ Ring.free (cellP0_0 c) (slotW0_0 c fh0) (Ring.sl 2 (t.val + 1)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ Ring.inflight (flightW0_0 c fh0) (Ring.sl 2 (t.val + 1)) (Ring.bk 20 (t.val + 1)) ∗ Ring.kept (cellP0_0 c) (slotW0_0 c fh0) (landed0_0 c fh0) (Ring.sl 2 t.val) (Ring.bk 20 t.val) ∗ (∃ W', owes (c : Thread nD τ) 0 W')) -∗ K ⟨⟩))
          ⊢ wp frame (wpE (defs₀ (F := F)) Variants.none c none) Set.univ (cc0__loss_body (grid0.coords t) (Memref.whole main_arg0) (Memref.isWhole_whole _) arg3 harg3 arg4 harg4 arg5 harg5 arg6 harg6 arg7 harg7 arg8 harg8 arg9 harg9 scM0_1 (Memref.isWhole_whole _) cc0_scratch2) K } := by
  refine ⟨?_, ?_, fun W K => ?run⟩
  case run =>
    haveI : Fact (cond0_0 (grid0.coords t)) := ⟨hc0⟩
    haveI : Fact (cond0_1 (grid0.coords t)) := ⟨hc1⟩
    haveI : Fact (cond0_2 (grid0.coords t)) := ⟨hc2⟩
    haveI : Fact (¬cond0_3 (grid0.coords t)) := ⟨hc3⟩
    simp only [cc0__loss_body_eq_skeleton]; unfold cc0__loss_body_skel
    simp only [k0_part1_eq_skeleton, k0_part2_eq_skeleton, k0_part3_eq_skeleton, k0_part4_eq_skeleton, k0_part5_eq_skeleton, k0_part6_eq_skeleton]
    have hcanon0 := canon0_0_1 t hc0 hc1 hc2 hc3
    have hcanon1 := canon0_0_2 t hc0 hc1 hc2 hc3
    have hcanon2 := canon0_0_3 t hc0 hc1 hc2 hc3
    unfold owns Ring.free Ring.inflight Ring.kept
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨Hc0_0_0, ⟨%fs0_0_0, Hs0_0_0, Hw0_0_0⟩⟩, ⟨Hc0_0_1, ⟨%fs0_0_1, Hs0_0_1, Hw0_0_1⟩⟩, HW, Hk⟩
    ihave Hsp0_0_0 := (src0_0_split c fh0 (Ring.sl 2 t.val) (Ring.bk 20 t.val)).1 $$ Hw0_0_0
    icases Hsp0_0_0 with ⟨Hh0_0_0, Hr0_0_0⟩
    ihave Hsp0_0_1 := (src0_0_split c fh0 (Ring.sl 2 (t.val + 1)) (Ring.bk 20 (t.val + 1))).1 $$ Hw0_0_1
    icases Hsp0_0_1 with ⟨Hh0_0_1, Hr0_0_1⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [Hc0_0_1 Hr0_0_1]
    · iexists _; isplitl [Hc0_0_1]; · iexact Hc0_0_1
      iexact Hr0_0_1
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 2 t.val) (Ring.bk 20 t.val)).2; isplitl [Hh0_0_0]; · iexact Hh0_0_0
      iexact Hr0_0_0
    iexists _; iexact HW

end Cert.KernelIdeal.Body

end
-- ==== Proof.Body.Tile.lean ====
/- What one grid point computes: the tile's foreground flags, its box loss and its classification loss, from the
   blocks the point reads, and how a point moves the accumulator and the output on. -/
module

public import proofs.«01_k».proof.Proof.Body.Setup
public import Idealize.ShloMosaic.Lib.ValueIdx
public import Idealize.ShloMosaic.Lib.CellWrites
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.ShloMosaic.Pipeline (Dat Cfg Window)
open Idealize.ShloMosaic.ValueIdx (ix1 ix2 ix3 ix4)

variable {F : FTy → Type} [FloatOps F]

/-- Each anchor's greatest overlap with a box, from the anchors' and the boxes' blocks. -/
def best (x1 : Vec F S1x1x4x10000 .f32) (x2 : Vec F S1x32x4 .f32) : FVec F S1x10000 .f32 :=
  k0_pay17 (k0_pay9 x1) (k0_pay10 x1) (k0_pay11 x1) (k0_pay12 x1) (k0_pay13 x2) (k0_pay14 x2) (k0_pay15 x2)

/-- The box numbers, and `32` where a box does not attain the anchor's greatest overlap. -/
def hits (x1 : Vec F S1x1x4x10000 .f32) (x2 : Vec F S1x32x4 .f32) : IVec S32x10000 32 :=
  k0_pay18 (k0_pay9 x1) (k0_pay10 x1) (k0_pay11 x1) (k0_pay12 x1) (k0_pay13 x2) (k0_pay14 x2) (k0_pay15 x2)

/-- The box numbers down each column. -/
def boxNo : IVec S32x10000 32 := iota .tc S32x10000 32 [0] iota_S32x10000_d0_w32

/-- The tile's foreground flags, as numbers. -/
def tileFg (x1 : Vec F S1x1x4x10000 .f32) (x2 : Vec F S1x32x4 .f32) : FVec F S1x10000 .f32 := k0_pay20 (best x1 x2)

/-- The tile's box loss. -/
def tileBox (x0 x1 : Vec F S1x1x4x10000 .f32) (x2 : Vec F S1x32x4 .f32) (x3 : Vec F S1x4x32 .f32) : F .f32 :=
  k0_pay34 (tileFg x1 x2)
    (k0_pay29 (k0_pay24 x0) (k0_pay25 (k0_pay5 x1) (k0_pay7 x1) (best x1 x2) boxNo (hits x1 x2) x3)
      (k0_pay26 (k0_pay6 x1) (k0_pay8 x1) (best x1 x2) boxNo (hits x1 x2) x3)
      (k0_pay27 (k0_pay7 x1) (best x1 x2) boxNo (hits x1 x2) x3))
    (k0_pay31 (k0_pay24 x0) (k0_pay28 (k0_pay8 x1) (best x1 x2) boxNo (hits x1 x2) x3))
    (k0_pay32 (k0_pay24 x0) (k0_pay28 (k0_pay8 x1) (best x1 x2) boxNo (hits x1 x2) x3))
    (k0_pay33 (k0_pay24 x0) (k0_pay28 (k0_pay8 x1) (best x1 x2) boxNo (hits x1 x2) x3))

/-- The tile's classification loss, `w` its class scores. -/
def tileCls (x1 : Vec F S1x1x4x10000 .f32) (x2 : Vec F S1x32x4 .f32) (x4 : Vec F S1x32x1 .f32)
    (w : Vec F S1x10000x80 .f32) : F .f32 :=
  k0_pay44 (k0_pay22 (best x1 x2) boxNo (hits x1 x2)) (k0_pay41 w) (k0_pay42 w) (k0_pay43 (k0_pay21 (best x1 x2)) w) x4

/-- The number the kernel clears its words to. -/
abbrev zero0 : F .f32 := Scalar.ofBits .f32 0x00000000#32

/-- Cell `k` of the accumulator. -/
abbrev c3 (k : Fin 3) : S3.Idx := ix1 k
/-- Cell `k` of the output. -/
abbrev c2 (k : Fin 2) : S2.Idx := ix1 k

/-- The accumulator after a tile, from what it held: foreground flags, box loss, classification loss. -/
def accStep (fg : FVec F S1x10000 .f32) (b k : F .f32) (a : Vec F S3 .f32) : Vec F S3 .f32 := fun y =>
  if (y 0).val = 2 then k0_pay1 k (a (c3 2))
  else if (y 0).val = 1 then k0_pay46 b (a (c3 1))
  else k0_pay45 fg (a (c3 0))

/-- The output after a batch's last tile, from what it held and the accumulator. -/
def outStep (a : Vec F S3 .f32) (o : Vec F S2 .f32) : Vec F S2 .f32 := fun y =>
  if (y 0).val = 1 then k0_pay3 (a (c3 0)) (a (c3 1)) (o (c2 1)) else k0_pay2 (a (c3 0)) (a (c3 2)) (o (c2 0))

/-- The class scores a point reads: the rows of its tile. -/
def scores (c : Dev nD) (t : Fin cfg0.N) (fh0 : HbBuf0 (F := F) c hbM0_0) : Vec F S1x10000x80 .f32 :=
  fun y => hbM0_0.view.read (Elt F) fh0 ((Rect.unit (s := S4x50000x80) ![((Ring.bk 20 t.val).val / 5), 10000 * ((Ring.bk 20 t.val).val % 5), 0] S1x10000x80.size (inb_src0_0 (Ring.bk 20 t.val))).emb y)

theorem off7 : ∀ t : Fin grid0.N, k0_off7 (grid0.coords t) = ![(Ring.sl 2 t.val).val, 0, 0] := by decide +kernel

section Slice

variable {Val : EltTy → Type} {sp : Space} {S S' : Shape} {e : EltTy}

/-- A load through a rectangle of a buffer, after a store of the whole of the same rectangle with its unit axes dropped,
    reads what was stored. -/
theorem load_slice (M : Memref sig .tc sp S e) {off off' : Fin S.rank → ℕ} (h : off = off') (sz : Fin S.rank → ℕ)
    (inb : ∀ a, off a + sz a ≤ S.size a) (inb' : ∀ a, off' a + sz a ≤ S.size a)
    (hq : (Rect.unit off' sz inb').shape.Squeezes S')
    (f : M.view.ty.Contents Val) (p : S'.Idx → Val e) :
    View.readAt Val M.view (Rect.unit off sz inb).toLoadRect
      (((M.slice (Rect.unit off' sz inb') (fun _ => rfl)).squeeze S' hq).view.writes Val f [⟨Rect.whole S', p⟩])
      = fun y => p ((Shape.reshapeEquiv hq.numel_eq).symm y) := by
  subst h
  funext y
  obtain ⟨z, rfl⟩ := (Shape.reshapeEquiv hq.numel_eq).surjective y
  have h := congrFun (View.read_writes_whole (Val := Val) ((M.slice (Rect.unit off sz inb') (fun _ => rfl)).squeeze S' hq).view f p) z
  rw [Equiv.symm_apply_apply]
  exact h

/-- Reading a rectangle of a buffer with its unit axes dropped reads the buffer. -/
theorem read_slice_squeeze (M : Memref sig .tc sp S e) (r : Rect S) (hr : ∀ a, r.stride a = 1) (hq : r.shape.Squeezes S')
    (f : M.view.ty.Contents Val) (y : r.shape.Idx) :
    ((M.slice r hr).squeeze S' hq).view.read Val f ((Shape.reshapeEquiv hq.numel_eq).symm y) = M.view.read Val f (r.emb y) := by
  obtain ⟨z, rfl⟩ := (Shape.reshapeEquiv hq.numel_eq).surjective y
  rw [Equiv.symm_apply_apply]
  rfl

end Slice

/-- A load of the slot of the point's own transfer reads the tile's class scores. -/
theorem slot_read (c : Dev nD) (t : Fin cfg0.N) (fh0 : HbBuf0 (F := F) c hbM0_0)
    (inb : ∀ a, k0_off7 (grid0.coords t) a + S1x10000x80.size a ≤ S2x10000x80.size a) (f : HbBuf0 (F := F) c scM0_1) :
    View.readAt (Elt F) scM0_1.view (Rect.unit (s := S2x10000x80) (k0_off7 (grid0.coords t)) S1x10000x80.size inb).toLoadRect
      ((rslot0_0 (Ring.sl 2 t.val)).view.writes (Elt F) f
        [⟨Rect.whole S10000x80, ReadAs.same.apply (View.read (Elt F) (srcB0_0 (Ring.bk 20 t.val)).view fh0)⟩])
      = scores c t fh0 := by
  have h1 := load_slice scM0_1 (off7 t) S1x10000x80.size inb (inb_slot0_0 (Ring.sl 2 t.val)) squeezes_S1x10000x80_S10000x80 f (View.read (Elt F) (srcB0_0 (Ring.bk 20 t.val)).view fh0)
  have h2 : ∀ y, _ := read_slice_squeeze hbM0_0 (Rect.unit (s := S4x50000x80) ![((Ring.bk 20 t.val).val / 5), 10000 * ((Ring.bk 20 t.val).val % 5), 0] S1x10000x80.size (inb_src0_0 (Ring.bk 20 t.val))) (fun _ => rfl) squeezes_S1x10000x80_S10000x80 fh0
  exact h1.trans (funext h2)

/-- A load of a whole buffer at zero offsets reads what it holds. -/
theorem whole_read {sp : Space} {S : Shape} {e : EltTy} {arg : Memref sig .tc sp S e} (harg : arg.IsWhole)
    (x : Vec F S e) {off : Fin S.rank → ℕ} (h : off = fun _ => 0) (inb : ∀ a, off a + S.size a ≤ S.size a) :
    View.readAt (Elt F) arg.view (Rect.unit off S.size inb).toLoadRect (harg.unread x) = x := by
  rw [View.readAt_eq_ld, harg.read_unread]
  exact View.ld_unit_zero h inb x

/-- A load of one word of a short list of words reads it. -/
theorem word_read {d : ℕ} {e : EltTy} {arg : Memref sig .tc .smem (⟨1, ![d]⟩ : Shape) e} (harg : arg.IsWhole)
    (x : Vec F (⟨1, ![d]⟩ : Shape) e) {off : Fin 1 → ℕ} (k : Fin d) (h : off 0 = k.val)
    (inb : ∀ a, off a + (![1] : Fin 1 → ℕ) a ≤ (⟨1, ![d]⟩ : Shape).size a) (j : S1.Idx) :
    View.readAt (Elt F) arg.view (Rect.unit (s := (⟨1, ![d]⟩ : Shape)) off ![1] inb).toLoadRect (harg.unread x) j = x (ix1 k) := by
  rw [View.readAt_eq_ld, harg.read_unread]
  refine congrArg x (funext fun a => Fin.ext ?_)
  match a with
  | ⟨0, _⟩ =>
    have hj : (j 0).val < 1 := (j 0).isLt
    show off 0 + 1 * (j 0).val = k.val
    omega

end Cert.KernelIdeal.Body

end
-- ==== Proof.Body.CaseA.lean ====
/- What the run at the first point leaves in the accumulator and the output. -/
module

public import proofs.«01_k».proof.Proof.Body.RunA
public import proofs.«01_k».proof.Proof.Body.Tile

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.ShloMosaic.Pipeline (Dat Cfg Window)
open Idealize.ShloMosaic.ValueIdx (ix1 ix2 ix3 ix4)

variable {F : FTy → Type} [FloatOps F]

/-- The class scores the run reads are the tile's. -/
theorem v192_A (c : Dev nD) (t : Fin cfg0.N) (fh0 : HbBuf0 (F := F) c hbM0_0) :
    kernelRun0_A.sl.v192 c t fh0 = scores c t fh0 := by
  unfold kernelRun0_A.sl.v192
  exact slot_read c t fh0 _ _

set_option maxHeartbeats 1000000 in
/-- The accumulator at the first point: the tile's three numbers added to zero. -/
theorem acc_A (c : Dev nD) (t : Fin cfg0.N) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (hc0 : cond0_0 (grid0.coords t)) (hc1 : cond0_1 (grid0.coords t)) (hc2 : cond0_2 (grid0.coords t)) (hc3 : ¬cond0_3 (grid0.coords t))
    (x0 : Vec F S1x1x4x10000 .f32) (x1 : Vec F S1x1x4x10000 .f32) (x2 : Vec F S1x32x4 .f32) (x3 : Vec F S1x4x32 .f32) (x4 : Vec F S1x32x1 .f32) (fh0 : HbBuf0 (F := F) c hbM0_0)
    (f : arg9.view.ty.Contents (Elt F)) :
    arg9.view.read (Elt F) (arg9.view.writes (Elt F) f (kernelRun0_A c t arg3 harg3 arg4 harg4 arg5 harg5 arg6 harg6 arg7 harg7 arg8 harg8 arg9 harg9 hc0 hc1 hc2 hc3 x0 x1 x2 x3 x4 fh0).2.1)
      = (accStep (tileFg x1 x2) (tileBox x0 x1 x2 x3) (tileCls x1 x2 x4 (scores c t fh0)) (fun _ => zero0)) := by
  unfold kernelRun0_A
  dsimp only
  have w4 : ∀ a : Fin 4, (![0, 0, 0, 0] : Fin 4 → ℕ) a = 0 := by decide
  have w3 : ∀ a : Fin 3, (![0, 0, 0] : Fin 3 → ℕ) a = 0 := by decide
  simp only [kernelRun0_A.sl.cst_79, kernelRun0_A.sl.dma10, kernelRun0_A.sl.dma4, kernelRun0_A.sl.f, kernelRun0_A.sl.f_1, kernelRun0_A.sl.f_2, kernelRun0_A.sl.r, kernelRun0_A.sl.r_1, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_2, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_3, kernelRun0_A.sl.r_30, kernelRun0_A.sl.r_31, kernelRun0_A.sl.r_32, kernelRun0_A.sl.r_33, kernelRun0_A.sl.r_34, kernelRun0_A.sl.r_4, kernelRun0_A.sl.r_5, kernelRun0_A.sl.r_6, kernelRun0_A.sl.r_7, kernelRun0_A.sl.r_8, kernelRun0_A.sl.r_9, kernelRun0_A.sl.v0, kernelRun0_A.sl.v1, kernelRun0_A.sl.v2, kernelRun0_A.sl.v7, kernelRun0_A.sl.v8, kernelRun0_A.sl.v81, kernelRun0_A.sl.v9, v192_A, whole_read harg3 x0 (funext w4), whole_read harg4 x1 (funext w4), whole_read harg5 x2 (funext w3),
    whole_read harg6 x3 (funext w3), whole_read harg7 x4 (funext w3)]
  funext y
  have hy : (y 0).val < 3 := (y 0).isLt
  rw [View.read_writes_cons_cell, View.read_writes_cons_cell, View.read_writes_cons_cell]
  simp only [accStep, tileFg, tileBox, tileCls, best, hits, boxNo, Matrix.cons_val_fin_one, c3]
  by_cases h2 : (y 0).val = 2
  · rw [if_pos h2, if_pos h2]
  · rw [if_neg h2, if_neg h2]
    by_cases h1 : (y 0).val = 1
    · rw [if_pos h1, if_pos h1]
    · rw [if_neg h1, if_neg h1, if_pos (by omega)]

set_option maxHeartbeats 1000000 in
/-- The output at the first point: zero. -/
theorem out_A (c : Dev nD) (t : Fin cfg0.N) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (hc0 : cond0_0 (grid0.coords t)) (hc1 : cond0_1 (grid0.coords t)) (hc2 : cond0_2 (grid0.coords t)) (hc3 : ¬cond0_3 (grid0.coords t))
    (x0 : Vec F S1x1x4x10000 .f32) (x1 : Vec F S1x1x4x10000 .f32) (x2 : Vec F S1x32x4 .f32) (x3 : Vec F S1x4x32 .f32) (x4 : Vec F S1x32x1 .f32) (fh0 : HbBuf0 (F := F) c hbM0_0)
    (f : arg8.view.ty.Contents (Elt F)) :
    arg8.view.read (Elt F) (arg8.view.writes (Elt F) f (kernelRun0_A c t arg3 harg3 arg4 harg4 arg5 harg5 arg6 harg6 arg7 harg7 arg8 harg8 arg9 harg9 hc0 hc1 hc2 hc3 x0 x1 x2 x3 x4 fh0).1)
      = fun _ => zero0 := by
  unfold kernelRun0_A
  dsimp only
  funext y
  have hy : (y 0).val < 2 := (y 0).isLt
  rw [View.read_writes_cons_cell, View.read_writes_cons_cell]
  simp only [Matrix.cons_val_fin_one]
  by_cases h1 : (y 0).val = 1
  · rw [if_pos h1]; rfl
  · rw [if_neg h1, if_pos (by omega)]; rfl

end Cert.KernelIdeal.Body

end
-- ==== Proof.Body.RunB.lean ====
/- The run of the kernel's body at a point inside a batch. -/
module

public import proofs.«01_k».proof.Proof.Body.Setup

@[expose] public section

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's run at a point inside a batch: on whole staging memrefs holding their blocks it ends with them as they were, the ring
    moved on by one point, and the accumulator at the pieces this definition finds, the output untouched. -/
noncomputable def kernelRun0_B (c : Dev nD) (t : Fin cfg0.N) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (hc0 : ¬cond0_0 (grid0.coords t)) (hc1 : ¬cond0_1 (grid0.coords t)) (hc2 : cond0_2 (grid0.coords t)) (hc3 : ¬cond0_3 (grid0.coords t))
    (x0 : Vec F S1x1x4x10000 .f32) (x1 : Vec F S1x1x4x10000 .f32) (x2 : Vec F S1x32x4 .f32) (x3 : Vec F S1x4x32 .f32) (x4 : Vec F S1x32x1 .f32) (fh0 : HbBuf0 (F := F) c hbM0_0) (xo5 : Vec F S2 .f32) (xs0 : Vec F S3 .f32) :
    { LS0 : List (View.Piece (Elt F) S3 .f32) //
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5 ∗ owns (c : Thread nD τ) arg9 fullShare xs0 ∗ Ring.inflight (flightW0_0 c fh0) (Ring.sl 2 t.val) (Ring.bk 20 t.val) ∗ Ring.kept (cellP0_0 c) (slotW0_0 c fh0) (landed0_0 c fh0) (Ring.sl 2 (t.val + 1)) (Ring.bk 20 (t.val - 1)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5 ∗ (∃ f, arg9.view.loc (c : Thread nD τ) ↦[arg9.view.set]{fullShare} arg9.view.writes (Elt F) f LS0) ∗ Ring.inflight (flightW0_0 c fh0) (Ring.sl 2 (t.val + 1)) (Ring.bk 20 (t.val + 1)) ∗ Ring.kept (cellP0_0 c) (slotW0_0 c fh0) (landed0_0 c fh0) (Ring.sl 2 t.val) (Ring.bk 20 t.val) ∗ (∃ W', owes (c : Thread nD τ) 0 W')) -∗ K ⟨⟩))
          ⊢ wp frame (wpE (defs₀ (F := F)) Variants.none c none) Set.univ (cc0__loss_body (grid0.coords t) (Memref.whole main_arg0) (Memref.isWhole_whole _) arg3 harg3 arg4 harg4 arg5 harg5 arg6 harg6 arg7 harg7 arg8 harg8 arg9 harg9 scM0_1 (Memref.isWhole_whole _) cc0_scratch2) K } := by
  refine ⟨?_, fun W K => ?run⟩
  case run =>
    haveI : Fact (¬cond0_0 (grid0.coords t)) := ⟨hc0⟩
    haveI : Fact (¬cond0_1 (grid0.coords t)) := ⟨hc1⟩
    haveI : Fact (cond0_2 (grid0.coords t)) := ⟨hc2⟩
    haveI : Fact (¬cond0_3 (grid0.coords t)) := ⟨hc3⟩
    simp only [cc0__loss_body_eq_skeleton]; unfold cc0__loss_body_skel
    simp only [k0_part1_eq_skeleton, k0_part2_eq_skeleton, k0_part3_eq_skeleton, k0_part4_eq_skeleton, k0_part5_eq_skeleton, k0_part6_eq_skeleton]
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ff0_0, Hf0_0, Hrf0_0⟩, ⟨Hc0_0_1, ⟨%fs0_0_1, Hs0_0_1, Hw0_0_1⟩⟩, HW, Hk⟩
    ihave Hsp0_0_1 := (src0_0_split c fh0 (Ring.sl 2 (t.val + 1)) (Ring.bk 20 (t.val + 1))).1 $$ Hw0_0_1
    icases Hsp0_0_1 with ⟨Hh0_0_1, Hr0_0_1⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 20 t.val)).2; isplitl [Hf0_0_src]; · iexact Hf0_0_src
      iexact Hrf0_0
    iexists _; iexact HW

end Cert.KernelIdeal.Body

end
-- ==== Proof.Body.CaseB.lean ====
/- What the run at a point inside a batch leaves in the accumulator and the output. -/
module

public import proofs.«01_k».proof.Proof.Body.RunB
public import proofs.«01_k».proof.Proof.Body.Tile

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.ShloMosaic.Pipeline (Dat Cfg Window)
open Idealize.ShloMosaic.ValueIdx (ix1 ix2 ix3 ix4)

variable {F : FTy → Type} [FloatOps F]

/-- The class scores the run reads are the tile's. -/
theorem v192_B (c : Dev nD) (t : Fin cfg0.N) (fh0 : HbBuf0 (F := F) c hbM0_0) :
    kernelRun0_B.sl.v192 c t fh0 = scores c t fh0 := by
  unfold kernelRun0_B.sl.v192
  exact slot_read c t fh0 _ _

set_option maxHeartbeats 1000000 in
/-- The accumulator at a point inside a batch: the tile's three numbers added to what it held. -/
theorem acc_B (c : Dev nD) (t : Fin cfg0.N) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (hc0 : ¬cond0_0 (grid0.coords t)) (hc1 : ¬cond0_1 (grid0.coords t)) (hc2 : cond0_2 (grid0.coords t)) (hc3 : ¬cond0_3 (grid0.coords t))
    (x0 : Vec F S1x1x4x10000 .f32) (x1 : Vec F S1x1x4x10000 .f32) (x2 : Vec F S1x32x4 .f32) (x3 : Vec F S1x4x32 .f32) (x4 : Vec F S1x32x1 .f32) (fh0 : HbBuf0 (F := F) c hbM0_0) (xo5 : Vec F S2 .f32) (xs0 : Vec F S3 .f32)
    (f : arg9.view.ty.Contents (Elt F)) :
    arg9.view.read (Elt F) (arg9.view.writes (Elt F) f (kernelRun0_B c t arg3 harg3 arg4 harg4 arg5 harg5 arg6 harg6 arg7 harg7 arg8 harg8 arg9 harg9 hc0 hc1 hc2 hc3 x0 x1 x2 x3 x4 fh0 xo5 xs0).1)
      = (accStep (tileFg x1 x2) (tileBox x0 x1 x2 x3) (tileCls x1 x2 x4 (scores c t fh0)) xs0) := by
  unfold kernelRun0_B
  dsimp only
  have w4 : ∀ a : Fin 4, (![0, 0, 0, 0] : Fin 4 → ℕ) a = 0 := by decide
  have w3 : ∀ a : Fin 3, (![0, 0, 0] : Fin 3 → ℕ) a = 0 := by decide
  simp only [kernelRun0_B.sl.dma0, kernelRun0_B.sl.f, kernelRun0_B.sl.f_1, kernelRun0_B.sl.f_2, kernelRun0_B.sl.r, kernelRun0_B.sl.r_1, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_2, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_3, kernelRun0_B.sl.r_30, kernelRun0_B.sl.r_31, kernelRun0_B.sl.r_32, kernelRun0_B.sl.r_33, kernelRun0_B.sl.r_4, kernelRun0_B.sl.r_5, kernelRun0_B.sl.r_6, kernelRun0_B.sl.r_7, kernelRun0_B.sl.r_8, kernelRun0_B.sl.r_9, kernelRun0_B.sl.v0, kernelRun0_B.sl.v1, kernelRun0_B.sl.v2, kernelRun0_B.sl.v7, kernelRun0_B.sl.v8, kernelRun0_B.sl.v81, kernelRun0_B.sl.v9, v192_B, whole_read harg3 x0 (funext w4), whole_read harg4 x1 (funext w4), whole_read harg5 x2 (funext w3),
    whole_read harg6 x3 (funext w3), whole_read harg7 x4 (funext w3),
    word_read harg9 xs0 (off := ![0]) (0 : Fin 3) rfl, word_read harg9 xs0 (off := ![1]) (1 : Fin 3) rfl, word_read harg9 xs0 (off := ![2]) (2 : Fin 3) rfl]
  funext y
  have hy : (y 0).val < 3 := (y 0).isLt
  rw [View.read_writes_cons_cell, View.read_writes_cons_cell, View.read_writes_cons_cell]
  simp only [accStep, tileFg, tileBox, tileCls, best, hits, boxNo, Matrix.cons_val_fin_one, c3]
  by_cases h2 : (y 0).val = 2
  · rw [if_pos h2, if_pos h2]
  · rw [if_neg h2, if_neg h2]
    by_cases h1 : (y 0).val = 1
    · rw [if_pos h1, if_pos h1]
    · rw [if_neg h1, if_neg h1, if_pos (by omega)]

end Cert.KernelIdeal.Body

end
-- ==== Proof.Body.RunC.lean ====
/- The run of the kernel's body at the last tile of a batch before the last. -/
module

public import proofs.«01_k».proof.Proof.Body.Setup

@[expose] public section

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's run at the last tile of a batch before the last: on whole staging memrefs holding their blocks it ends with them as they were, the ring
    moved on by one point, and the accumulator and the output at the pieces this definition finds. -/
noncomputable def kernelRun0_C (c : Dev nD) (t : Fin cfg0.N) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (hc0 : ¬cond0_0 (grid0.coords t)) (hc1 : ¬cond0_1 (grid0.coords t)) (hc2 : cond0_2 (grid0.coords t)) (hc3 : cond0_3 (grid0.coords t))
    (x0 : Vec F S1x1x4x10000 .f32) (x1 : Vec F S1x1x4x10000 .f32) (x2 : Vec F S1x32x4 .f32) (x3 : Vec F S1x4x32 .f32) (x4 : Vec F S1x32x1 .f32) (fh0 : HbBuf0 (F := F) c hbM0_0) (xo5 : Vec F S2 .f32) (xs0 : Vec F S3 .f32) :
    Σ' (L5 : List (View.Piece (Elt F) S2 .f32)), { LS0 : List (View.Piece (Elt F) S3 .f32) //
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5 ∗ owns (c : Thread nD τ) arg9 fullShare xs0 ∗ Ring.inflight (flightW0_0 c fh0) (Ring.sl 2 t.val) (Ring.bk 20 t.val) ∗ Ring.kept (cellP0_0 c) (slotW0_0 c fh0) (landed0_0 c fh0) (Ring.sl 2 (t.val + 1)) (Ring.bk 20 (t.val - 1)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ Ring.inflight (flightW0_0 c fh0) (Ring.sl 2 (t.val + 1)) (Ring.bk 20 (t.val + 1)) ∗ Ring.kept (cellP0_0 c) (slotW0_0 c fh0) (landed0_0 c fh0) (Ring.sl 2 t.val) (Ring.bk 20 t.val) ∗ (∃ W', owes (c : Thread nD τ) 0 W')) -∗ K ⟨⟩))
          ⊢ wp frame (wpE (defs₀ (F := F)) Variants.none c none) Set.univ (cc0__loss_body (grid0.coords t) (Memref.whole main_arg0) (Memref.isWhole_whole _) arg3 harg3 arg4 harg4 arg5 harg5 arg6 harg6 arg7 harg7 arg8 harg8 arg9 harg9 scM0_1 (Memref.isWhole_whole _) cc0_scratch2) K } := by
  refine ⟨?_, ?_, fun W K => ?run⟩
  case run =>
    haveI : Fact (¬cond0_0 (grid0.coords t)) := ⟨hc0⟩
    haveI : Fact (¬cond0_1 (grid0.coords t)) := ⟨hc1⟩
    haveI : Fact (cond0_2 (grid0.coords t)) := ⟨hc2⟩
    haveI : Fact (cond0_3 (grid0.coords t)) := ⟨hc3⟩
    simp only [cc0__loss_body_eq_skeleton]; unfold cc0__loss_body_skel
    simp only [k0_part1_eq_skeleton, k0_part2_eq_skeleton, k0_part3_eq_skeleton, k0_part4_eq_skeleton, k0_part5_eq_skeleton, k0_part6_eq_skeleton]
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ff0_0, Hf0_0, Hrf0_0⟩, ⟨Hc0_0_1, ⟨%fs0_0_1, Hs0_0_1, Hw0_0_1⟩⟩, HW, Hk⟩
    ihave Hsp0_0_1 := (src0_0_split c fh0 (Ring.sl 2 (t.val + 1)) (Ring.bk 20 (t.val + 1))).1 $$ Hw0_0_1
    icases Hsp0_0_1 with ⟨Hh0_0_1, Hr0_0_1⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 20 t.val)).2; isplitl [Hf0_0_src]; · iexact Hf0_0_src
      iexact Hrf0_0
    iexists _; iexact HW

end Cert.KernelIdeal.Body

end
-- ==== Proof.Body.CaseC.lean ====
/- What the run at the last tile of a batch before the last leaves in the accumulator and the output. -/
module

public import proofs.«01_k».proof.Proof.Body.RunC
public import proofs.«01_k».proof.Proof.Body.Tile

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.ShloMosaic.Pipeline (Dat Cfg Window)
open Idealize.ShloMosaic.ValueIdx (ix1 ix2 ix3 ix4)

variable {F : FTy → Type} [FloatOps F]

/-- The class scores the run reads are the tile's. -/
theorem v192_C (c : Dev nD) (t : Fin cfg0.N) (fh0 : HbBuf0 (F := F) c hbM0_0) :
    kernelRun0_C.sl.v192 c t fh0 = scores c t fh0 := by
  unfold kernelRun0_C.sl.v192
  exact slot_read c t fh0 _ _

set_option maxHeartbeats 1000000 in
/-- The accumulator at the last tile of a batch before the last: the tile's three numbers added to what it held. -/
theorem acc_C (c : Dev nD) (t : Fin cfg0.N) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (hc0 : ¬cond0_0 (grid0.coords t)) (hc1 : ¬cond0_1 (grid0.coords t)) (hc2 : cond0_2 (grid0.coords t)) (hc3 : cond0_3 (grid0.coords t))
    (x0 : Vec F S1x1x4x10000 .f32) (x1 : Vec F S1x1x4x10000 .f32) (x2 : Vec F S1x32x4 .f32) (x3 : Vec F S1x4x32 .f32) (x4 : Vec F S1x32x1 .f32) (fh0 : HbBuf0 (F := F) c hbM0_0) (xo5 : Vec F S2 .f32) (xs0 : Vec F S3 .f32)
    (f : arg9.view.ty.Contents (Elt F)) :
    arg9.view.read (Elt F) (arg9.view.writes (Elt F) f (kernelRun0_C c t arg3 harg3 arg4 harg4 arg5 harg5 arg6 harg6 arg7 harg7 arg8 harg8 arg9 harg9 hc0 hc1 hc2 hc3 x0 x1 x2 x3 x4 fh0 xo5 xs0).2.1)
      = (accStep (tileFg x1 x2) (tileBox x0 x1 x2 x3) (tileCls x1 x2 x4 (scores c t fh0)) xs0) := by
  unfold kernelRun0_C
  dsimp only
  have w4 : ∀ a : Fin 4, (![0, 0, 0, 0] : Fin 4 → ℕ) a = 0 := by decide
  have w3 : ∀ a : Fin 3, (![0, 0, 0] : Fin 3 → ℕ) a = 0 := by decide
  simp only [kernelRun0_C.sl.dma0, kernelRun0_C.sl.f, kernelRun0_C.sl.f_1, kernelRun0_C.sl.f_2, kernelRun0_C.sl.f_3, kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_3, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_4, kernelRun0_C.sl.r_5, kernelRun0_C.sl.r_6, kernelRun0_C.sl.r_7, kernelRun0_C.sl.r_8, kernelRun0_C.sl.r_9, kernelRun0_C.sl.v0, kernelRun0_C.sl.v1, kernelRun0_C.sl.v2, kernelRun0_C.sl.v7, kernelRun0_C.sl.v8, kernelRun0_C.sl.v81, kernelRun0_C.sl.v9, v192_C, whole_read harg3 x0 (funext w4), whole_read harg4 x1 (funext w4), whole_read harg5 x2 (funext w3),
    whole_read harg6 x3 (funext w3), whole_read harg7 x4 (funext w3),
    word_read harg9 xs0 (off := ![0]) (0 : Fin 3) rfl, word_read harg9 xs0 (off := ![1]) (1 : Fin 3) rfl, word_read harg9 xs0 (off := ![2]) (2 : Fin 3) rfl]
  funext y
  have hy : (y 0).val < 3 := (y 0).isLt
  rw [View.read_writes_cons_cell, View.read_writes_cons_cell, View.read_writes_cons_cell]
  simp only [accStep, tileFg, tileBox, tileCls, best, hits, boxNo, Matrix.cons_val_fin_one, c3]
  by_cases h2 : (y 0).val = 2
  · rw [if_pos h2, if_pos h2]
  · rw [if_neg h2, if_neg h2]
    by_cases h1 : (y 0).val = 1
    · rw [if_pos h1, if_pos h1]
    · rw [if_neg h1, if_neg h1, if_pos (by omega)]

set_option maxHeartbeats 1000000 in
/-- The output at the last tile of a batch before the last: the batch's two losses added. -/
theorem out_C (c : Dev nD) (t : Fin cfg0.N) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (hc0 : ¬cond0_0 (grid0.coords t)) (hc1 : ¬cond0_1 (grid0.coords t)) (hc2 : cond0_2 (grid0.coords t)) (hc3 : cond0_3 (grid0.coords t))
    (x0 : Vec F S1x1x4x10000 .f32) (x1 : Vec F S1x1x4x10000 .f32) (x2 : Vec F S1x32x4 .f32) (x3 : Vec F S1x4x32 .f32) (x4 : Vec F S1x32x1 .f32) (fh0 : HbBuf0 (F := F) c hbM0_0) (xo5 : Vec F S2 .f32) (xs0 : Vec F S3 .f32)
    (f : arg8.view.ty.Contents (Elt F)) :
    arg8.view.read (Elt F) (arg8.view.writes (Elt F) f (kernelRun0_C c t arg3 harg3 arg4 harg4 arg5 harg5 arg6 harg6 arg7 harg7 arg8 harg8 arg9 harg9 hc0 hc1 hc2 hc3 x0 x1 x2 x3 x4 fh0 xo5 xs0).1)
      = outStep (accStep (tileFg x1 x2) (tileBox x0 x1 x2 x3) (tileCls x1 x2 x4 (scores c t fh0)) xs0) xo5 := by
  unfold kernelRun0_C
  dsimp only
  have w4 : ∀ a : Fin 4, (![0, 0, 0, 0] : Fin 4 → ℕ) a = 0 := by decide
  have w3 : ∀ a : Fin 3, (![0, 0, 0] : Fin 3 → ℕ) a = 0 := by decide
  simp only [kernelRun0_C.sl.dma0, kernelRun0_C.sl.f, kernelRun0_C.sl.f_1, kernelRun0_C.sl.f_2, kernelRun0_C.sl.f_3, kernelRun0_C.sl.r, kernelRun0_C.sl.r_1, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_2, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.r_29, kernelRun0_C.sl.r_3, kernelRun0_C.sl.r_30, kernelRun0_C.sl.r_31, kernelRun0_C.sl.r_32, kernelRun0_C.sl.r_33, kernelRun0_C.sl.r_34, kernelRun0_C.sl.r_35, kernelRun0_C.sl.r_36, kernelRun0_C.sl.r_37, kernelRun0_C.sl.r_38, kernelRun0_C.sl.r_4, kernelRun0_C.sl.r_5, kernelRun0_C.sl.r_6, kernelRun0_C.sl.r_7, kernelRun0_C.sl.r_8, kernelRun0_C.sl.r_9, kernelRun0_C.sl.v0, kernelRun0_C.sl.v1, kernelRun0_C.sl.v2, kernelRun0_C.sl.v7, kernelRun0_C.sl.v8, kernelRun0_C.sl.v81, kernelRun0_C.sl.v9, v192_C, whole_read harg3 x0 (funext w4), whole_read harg4 x1 (funext w4), whole_read harg5 x2 (funext w3),
    whole_read harg6 x3 (funext w3), whole_read harg7 x4 (funext w3),
    word_read harg9 xs0 (off := ![0]) (0 : Fin 3) rfl, word_read harg9 xs0 (off := ![1]) (1 : Fin 3) rfl, word_read harg9 xs0 (off := ![2]) (2 : Fin 3) rfl,
    word_read harg8 xo5 (off := ![0]) (0 : Fin 2) rfl, word_read harg8 xo5 (off := ![1]) (1 : Fin 2) rfl]
  funext y
  have hy : (y 0).val < 2 := (y 0).isLt
  rw [View.read_writes_cons_cell, View.read_writes_cons_cell]
  simp only [outStep, accStep, tileFg, tileBox, tileCls, best, hits, boxNo, Matrix.cons_val_fin_one, c3, c2]
  by_cases h1 : (y 0).val = 1
  · rw [if_pos h1, if_pos h1]; rfl
  · rw [if_neg h1, if_neg h1, if_pos (by omega)]; rfl

end Cert.KernelIdeal.Body

end
-- ==== Proof.Body.RunD.lean ====
/- The run of the kernel's body at the first tile of a later batch. -/
module

public import proofs.«01_k».proof.Proof.Body.Setup

@[expose] public section

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's run at the first tile of a later batch: on whole staging memrefs holding their blocks it ends with them as they were, the ring
    moved on by one point, and the accumulator at the pieces this definition finds, the output untouched. -/
noncomputable def kernelRun0_D (c : Dev nD) (t : Fin cfg0.N) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (hc0 : ¬cond0_0 (grid0.coords t)) (hc1 : cond0_1 (grid0.coords t)) (hc2 : cond0_2 (grid0.coords t)) (hc3 : ¬cond0_3 (grid0.coords t))
    (x0 : Vec F S1x1x4x10000 .f32) (x1 : Vec F S1x1x4x10000 .f32) (x2 : Vec F S1x32x4 .f32) (x3 : Vec F S1x4x32 .f32) (x4 : Vec F S1x32x1 .f32) (fh0 : HbBuf0 (F := F) c hbM0_0) (xo5 : Vec F S2 .f32) :
    { LS0 : List (View.Piece (Elt F) S3 .f32) //
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5 ∗ (∃ d, owns (c : Thread nD τ) arg9 fullShare d) ∗ Ring.inflight (flightW0_0 c fh0) (Ring.sl 2 t.val) (Ring.bk 20 t.val) ∗ Ring.kept (cellP0_0 c) (slotW0_0 c fh0) (landed0_0 c fh0) (Ring.sl 2 (t.val + 1)) (Ring.bk 20 (t.val - 1)) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5 ∗ (∃ f, arg9.view.loc (c : Thread nD τ) ↦[arg9.view.set]{fullShare} arg9.view.writes (Elt F) f LS0) ∗ Ring.inflight (flightW0_0 c fh0) (Ring.sl 2 (t.val + 1)) (Ring.bk 20 (t.val + 1)) ∗ Ring.kept (cellP0_0 c) (slotW0_0 c fh0) (landed0_0 c fh0) (Ring.sl 2 t.val) (Ring.bk 20 t.val) ∗ (∃ W', owes (c : Thread nD τ) 0 W')) -∗ K ⟨⟩))
          ⊢ wp frame (wpE (defs₀ (F := F)) Variants.none c none) Set.univ (cc0__loss_body (grid0.coords t) (Memref.whole main_arg0) (Memref.isWhole_whole _) arg3 harg3 arg4 harg4 arg5 harg5 arg6 harg6 arg7 harg7 arg8 harg8 arg9 harg9 scM0_1 (Memref.isWhole_whole _) cc0_scratch2) K } := by
  refine ⟨?_, fun W K => ?run⟩
  case run =>
    haveI : Fact (¬cond0_0 (grid0.coords t)) := ⟨hc0⟩
    haveI : Fact (cond0_1 (grid0.coords t)) := ⟨hc1⟩
    haveI : Fact (cond0_2 (grid0.coords t)) := ⟨hc2⟩
    haveI : Fact (¬cond0_3 (grid0.coords t)) := ⟨hc3⟩
    simp only [cc0__loss_body_eq_skeleton]; unfold cc0__loss_body_skel
    simp only [k0_part1_eq_skeleton, k0_part2_eq_skeleton, k0_part3_eq_skeleton, k0_part4_eq_skeleton, k0_part5_eq_skeleton, k0_part6_eq_skeleton]
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ff0_0, Hf0_0, Hrf0_0⟩, ⟨Hc0_0_1, ⟨%fs0_0_1, Hs0_0_1, Hw0_0_1⟩⟩, HW, Hk⟩
    ihave Hsp0_0_1 := (src0_0_split c fh0 (Ring.sl 2 (t.val + 1)) (Ring.bk 20 (t.val + 1))).1 $$ Hw0_0_1
    icases Hsp0_0_1 with ⟨Hh0_0_1, Hr0_0_1⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 20 t.val)).2; isplitl [Hf0_0_src]; · iexact Hf0_0_src
      iexact Hrf0_0
    iexists _; iexact HW

end Cert.KernelIdeal.Body

end
-- ==== Proof.Body.CaseD.lean ====
/- What the run at the first tile of a later batch leaves in the accumulator and the output. -/
module

public import proofs.«01_k».proof.Proof.Body.RunD
public import proofs.«01_k».proof.Proof.Body.Tile

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.ShloMosaic.Pipeline (Dat Cfg Window)
open Idealize.ShloMosaic.ValueIdx (ix1 ix2 ix3 ix4)

variable {F : FTy → Type} [FloatOps F]

/-- The class scores the run reads are the tile's. -/
theorem v192_D (c : Dev nD) (t : Fin cfg0.N) (fh0 : HbBuf0 (F := F) c hbM0_0) :
    kernelRun0_D.sl.v192 c t fh0 = scores c t fh0 := by
  unfold kernelRun0_D.sl.v192
  exact slot_read c t fh0 _ _

set_option maxHeartbeats 1000000 in
/-- The accumulator at the first tile of a later batch: the tile's three numbers added to zero. -/
theorem acc_D (c : Dev nD) (t : Fin cfg0.N) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (hc0 : ¬cond0_0 (grid0.coords t)) (hc1 : cond0_1 (grid0.coords t)) (hc2 : cond0_2 (grid0.coords t)) (hc3 : ¬cond0_3 (grid0.coords t))
    (x0 : Vec F S1x1x4x10000 .f32) (x1 : Vec F S1x1x4x10000 .f32) (x2 : Vec F S1x32x4 .f32) (x3 : Vec F S1x4x32 .f32) (x4 : Vec F S1x32x1 .f32) (fh0 : HbBuf0 (F := F) c hbM0_0) (xo5 : Vec F S2 .f32)
    (f : arg9.view.ty.Contents (Elt F)) :
    arg9.view.read (Elt F) (arg9.view.writes (Elt F) f (kernelRun0_D c t arg3 harg3 arg4 harg4 arg5 harg5 arg6 harg6 arg7 harg7 arg8 harg8 arg9 harg9 hc0 hc1 hc2 hc3 x0 x1 x2 x3 x4 fh0 xo5).1)
      = (accStep (tileFg x1 x2) (tileBox x0 x1 x2 x3) (tileCls x1 x2 x4 (scores c t fh0)) (fun _ => zero0)) := by
  unfold kernelRun0_D
  dsimp only
  have w4 : ∀ a : Fin 4, (![0, 0, 0, 0] : Fin 4 → ℕ) a = 0 := by decide
  have w3 : ∀ a : Fin 3, (![0, 0, 0] : Fin 3 → ℕ) a = 0 := by decide
  simp only [kernelRun0_D.sl.cst_79, kernelRun0_D.sl.dma6, kernelRun0_D.sl.f, kernelRun0_D.sl.f_1, kernelRun0_D.sl.r, kernelRun0_D.sl.r_1, kernelRun0_D.sl.r_10, kernelRun0_D.sl.r_11, kernelRun0_D.sl.r_12, kernelRun0_D.sl.r_13, kernelRun0_D.sl.r_14, kernelRun0_D.sl.r_15, kernelRun0_D.sl.r_16, kernelRun0_D.sl.r_17, kernelRun0_D.sl.r_18, kernelRun0_D.sl.r_19, kernelRun0_D.sl.r_2, kernelRun0_D.sl.r_20, kernelRun0_D.sl.r_21, kernelRun0_D.sl.r_22, kernelRun0_D.sl.r_23, kernelRun0_D.sl.r_24, kernelRun0_D.sl.r_25, kernelRun0_D.sl.r_26, kernelRun0_D.sl.r_27, kernelRun0_D.sl.r_28, kernelRun0_D.sl.r_29, kernelRun0_D.sl.r_3, kernelRun0_D.sl.r_30, kernelRun0_D.sl.r_31, kernelRun0_D.sl.r_32, kernelRun0_D.sl.r_4, kernelRun0_D.sl.r_5, kernelRun0_D.sl.r_6, kernelRun0_D.sl.r_7, kernelRun0_D.sl.r_8, kernelRun0_D.sl.r_9, kernelRun0_D.sl.v0, kernelRun0_D.sl.v1, kernelRun0_D.sl.v2, kernelRun0_D.sl.v7, kernelRun0_D.sl.v8, kernelRun0_D.sl.v81, kernelRun0_D.sl.v9, v192_D, whole_read harg3 x0 (funext w4), whole_read harg4 x1 (funext w4), whole_read harg5 x2 (funext w3),
    whole_read harg6 x3 (funext w3), whole_read harg7 x4 (funext w3)]
  funext y
  have hy : (y 0).val < 3 := (y 0).isLt
  rw [View.read_writes_cons_cell, View.read_writes_cons_cell, View.read_writes_cons_cell]
  simp only [accStep, tileFg, tileBox, tileCls, best, hits, boxNo, Matrix.cons_val_fin_one, c3]
  by_cases h2 : (y 0).val = 2
  · rw [if_pos h2, if_pos h2]
  · rw [if_neg h2, if_neg h2]
    by_cases h1 : (y 0).val = 1
    · rw [if_pos h1, if_pos h1]
    · rw [if_neg h1, if_neg h1, if_pos (by omega)]

end Cert.KernelIdeal.Body

end
-- ==== Proof.Body.RunE.lean ====
/- The run of the kernel's body at the last point. -/
module

public import proofs.«01_k».proof.Proof.Body.Setup

@[expose] public section

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1000000 in
/-- The body's run at the last point: on whole staging memrefs holding their blocks it ends with them as they were, the ring
    moved on by one point, and the accumulator and the output at the pieces this definition finds. -/
noncomputable def kernelRun0_E (c : Dev nD) (t : Fin cfg0.N) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (hc0 : ¬cond0_0 (grid0.coords t)) (hc1 : ¬cond0_1 (grid0.coords t)) (hc2 : ¬cond0_2 (grid0.coords t)) (hc3 : cond0_3 (grid0.coords t))
    (x0 : Vec F S1x1x4x10000 .f32) (x1 : Vec F S1x1x4x10000 .f32) (x2 : Vec F S1x32x4 .f32) (x3 : Vec F S1x4x32 .f32) (x4 : Vec F S1x32x1 .f32) (fh0 : HbBuf0 (F := F) c hbM0_0) (xo5 : Vec F S2 .f32) (xs0 : Vec F S3 .f32) :
    Σ' (L5 : List (View.Piece (Elt F) S2 .f32)), { LS0 : List (View.Piece (Elt F) S3 .f32) //
      ∀ (W : Waits sig Unit) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5 ∗ owns (c : Thread nD τ) arg9 fullShare xs0 ∗ Ring.inflight (flightW0_0 c fh0) (Ring.sl 2 t.val) (Ring.bk 20 t.val) ∗ owes (c : Thread nD τ) 0 W
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ Ring.kept (cellP0_0 c) (slotW0_0 c fh0) (landed0_0 c fh0) (Ring.sl 2 t.val) (Ring.bk 20 t.val) ∗ (∃ W', owes (c : Thread nD τ) 0 W')) -∗ K ⟨⟩))
          ⊢ wp frame (wpE (defs₀ (F := F)) Variants.none c none) Set.univ (cc0__loss_body (grid0.coords t) (Memref.whole main_arg0) (Memref.isWhole_whole _) arg3 harg3 arg4 harg4 arg5 harg5 arg6 harg6 arg7 harg7 arg8 harg8 arg9 harg9 scM0_1 (Memref.isWhole_whole _) cc0_scratch2) K } := by
  refine ⟨?_, ?_, fun W K => ?run⟩
  case run =>
    haveI : Fact (¬cond0_0 (grid0.coords t)) := ⟨hc0⟩
    haveI : Fact (¬cond0_1 (grid0.coords t)) := ⟨hc1⟩
    haveI : Fact (¬cond0_2 (grid0.coords t)) := ⟨hc2⟩
    haveI : Fact (cond0_3 (grid0.coords t)) := ⟨hc3⟩
    simp only [cc0__loss_body_eq_skeleton]; unfold cc0__loss_body_skel
    simp only [k0_part1_eq_skeleton, k0_part2_eq_skeleton, k0_part3_eq_skeleton, k0_part4_eq_skeleton, k0_part5_eq_skeleton, k0_part6_eq_skeleton]
    unfold owns Ring.inflight Ring.kept
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ff0_0, Hf0_0, Hrf0_0⟩, HW, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 20 t.val)).2; isplitl [Hf0_0_src]; · iexact Hf0_0_src
      iexact Hrf0_0
    iexists _; iexact HW

end Cert.KernelIdeal.Body

end
-- ==== Proof.Body.CaseE.lean ====
/- What the run at the last point leaves in the accumulator and the output. -/
module

public import proofs.«01_k».proof.Proof.Body.RunE
public import proofs.«01_k».proof.Proof.Body.Tile

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.ShloMosaic.Pipeline (Dat Cfg Window)
open Idealize.ShloMosaic.ValueIdx (ix1 ix2 ix3 ix4)

variable {F : FTy → Type} [FloatOps F]

/-- The class scores the run reads are the tile's. -/
theorem v192_E (c : Dev nD) (t : Fin cfg0.N) (fh0 : HbBuf0 (F := F) c hbM0_0) :
    kernelRun0_E.sl.v192 c t fh0 = scores c t fh0 := by
  unfold kernelRun0_E.sl.v192
  exact slot_read c t fh0 _ _

set_option maxHeartbeats 1000000 in
/-- The accumulator at the last point: the tile's three numbers added to what it held. -/
theorem acc_E (c : Dev nD) (t : Fin cfg0.N) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (hc0 : ¬cond0_0 (grid0.coords t)) (hc1 : ¬cond0_1 (grid0.coords t)) (hc2 : ¬cond0_2 (grid0.coords t)) (hc3 : cond0_3 (grid0.coords t))
    (x0 : Vec F S1x1x4x10000 .f32) (x1 : Vec F S1x1x4x10000 .f32) (x2 : Vec F S1x32x4 .f32) (x3 : Vec F S1x4x32 .f32) (x4 : Vec F S1x32x1 .f32) (fh0 : HbBuf0 (F := F) c hbM0_0) (xo5 : Vec F S2 .f32) (xs0 : Vec F S3 .f32)
    (f : arg9.view.ty.Contents (Elt F)) :
    arg9.view.read (Elt F) (arg9.view.writes (Elt F) f (kernelRun0_E c t arg3 harg3 arg4 harg4 arg5 harg5 arg6 harg6 arg7 harg7 arg8 harg8 arg9 harg9 hc0 hc1 hc2 hc3 x0 x1 x2 x3 x4 fh0 xo5 xs0).2.1)
      = (accStep (tileFg x1 x2) (tileBox x0 x1 x2 x3) (tileCls x1 x2 x4 (scores c t fh0)) xs0) := by
  unfold kernelRun0_E
  dsimp only
  have w4 : ∀ a : Fin 4, (![0, 0, 0, 0] : Fin 4 → ℕ) a = 0 := by decide
  have w3 : ∀ a : Fin 3, (![0, 0, 0] : Fin 3 → ℕ) a = 0 := by decide
  simp only [kernelRun0_E.sl.f, kernelRun0_E.sl.f_1, kernelRun0_E.sl.f_2, kernelRun0_E.sl.f_3, kernelRun0_E.sl.r, kernelRun0_E.sl.r_1, kernelRun0_E.sl.r_10, kernelRun0_E.sl.r_11, kernelRun0_E.sl.r_12, kernelRun0_E.sl.r_13, kernelRun0_E.sl.r_14, kernelRun0_E.sl.r_15, kernelRun0_E.sl.r_16, kernelRun0_E.sl.r_17, kernelRun0_E.sl.r_18, kernelRun0_E.sl.r_19, kernelRun0_E.sl.r_2, kernelRun0_E.sl.r_20, kernelRun0_E.sl.r_21, kernelRun0_E.sl.r_22, kernelRun0_E.sl.r_23, kernelRun0_E.sl.r_24, kernelRun0_E.sl.r_25, kernelRun0_E.sl.r_26, kernelRun0_E.sl.r_27, kernelRun0_E.sl.r_28, kernelRun0_E.sl.r_29, kernelRun0_E.sl.r_3, kernelRun0_E.sl.r_30, kernelRun0_E.sl.r_31, kernelRun0_E.sl.r_32, kernelRun0_E.sl.r_33, kernelRun0_E.sl.r_34, kernelRun0_E.sl.r_35, kernelRun0_E.sl.r_36, kernelRun0_E.sl.r_37, kernelRun0_E.sl.r_38, kernelRun0_E.sl.r_4, kernelRun0_E.sl.r_5, kernelRun0_E.sl.r_6, kernelRun0_E.sl.r_7, kernelRun0_E.sl.r_8, kernelRun0_E.sl.r_9, kernelRun0_E.sl.v0, kernelRun0_E.sl.v1, kernelRun0_E.sl.v2, kernelRun0_E.sl.v7, kernelRun0_E.sl.v8, kernelRun0_E.sl.v81, kernelRun0_E.sl.v9, v192_E, whole_read harg3 x0 (funext w4), whole_read harg4 x1 (funext w4), whole_read harg5 x2 (funext w3),
    whole_read harg6 x3 (funext w3), whole_read harg7 x4 (funext w3),
    word_read harg9 xs0 (off := ![0]) (0 : Fin 3) rfl, word_read harg9 xs0 (off := ![1]) (1 : Fin 3) rfl, word_read harg9 xs0 (off := ![2]) (2 : Fin 3) rfl]
  funext y
  have hy : (y 0).val < 3 := (y 0).isLt
  rw [View.read_writes_cons_cell, View.read_writes_cons_cell, View.read_writes_cons_cell]
  simp only [accStep, tileFg, tileBox, tileCls, best, hits, boxNo, Matrix.cons_val_fin_one, c3]
  by_cases h2 : (y 0).val = 2
  · rw [if_pos h2, if_pos h2]
  · rw [if_neg h2, if_neg h2]
    by_cases h1 : (y 0).val = 1
    · rw [if_pos h1, if_pos h1]
    · rw [if_neg h1, if_neg h1, if_pos (by omega)]

set_option maxHeartbeats 1000000 in
/-- The output at the last point: the batch's two losses added. -/
theorem out_E (c : Dev nD) (t : Fin cfg0.N) (arg3 : Memref sig .tc .vmem S1x1x4x10000 .f32) (harg3 : arg3.IsWhole) (arg4 : Memref sig .tc .vmem S1x1x4x10000 .f32) (harg4 : arg4.IsWhole) (arg5 : Memref sig .tc .vmem S1x32x4 .f32) (harg5 : arg5.IsWhole) (arg6 : Memref sig .tc .vmem S1x4x32 .f32) (harg6 : arg6.IsWhole) (arg7 : Memref sig .tc .vmem S1x32x1 .f32) (harg7 : arg7.IsWhole) (arg8 : Memref sig .tc .smem S2 .f32) (harg8 : arg8.IsWhole) (arg9 : Memref sig .tc .smem S3 .f32) (harg9 : arg9.IsWhole) (hc0 : ¬cond0_0 (grid0.coords t)) (hc1 : ¬cond0_1 (grid0.coords t)) (hc2 : ¬cond0_2 (grid0.coords t)) (hc3 : cond0_3 (grid0.coords t))
    (x0 : Vec F S1x1x4x10000 .f32) (x1 : Vec F S1x1x4x10000 .f32) (x2 : Vec F S1x32x4 .f32) (x3 : Vec F S1x4x32 .f32) (x4 : Vec F S1x32x1 .f32) (fh0 : HbBuf0 (F := F) c hbM0_0) (xo5 : Vec F S2 .f32) (xs0 : Vec F S3 .f32)
    (f : arg8.view.ty.Contents (Elt F)) :
    arg8.view.read (Elt F) (arg8.view.writes (Elt F) f (kernelRun0_E c t arg3 harg3 arg4 harg4 arg5 harg5 arg6 harg6 arg7 harg7 arg8 harg8 arg9 harg9 hc0 hc1 hc2 hc3 x0 x1 x2 x3 x4 fh0 xo5 xs0).1)
      = outStep (accStep (tileFg x1 x2) (tileBox x0 x1 x2 x3) (tileCls x1 x2 x4 (scores c t fh0)) xs0) xo5 := by
  unfold kernelRun0_E
  dsimp only
  have w4 : ∀ a : Fin 4, (![0, 0, 0, 0] : Fin 4 → ℕ) a = 0 := by decide
  have w3 : ∀ a : Fin 3, (![0, 0, 0] : Fin 3 → ℕ) a = 0 := by decide
  simp only [kernelRun0_E.sl.f, kernelRun0_E.sl.f_1, kernelRun0_E.sl.f_2, kernelRun0_E.sl.f_3, kernelRun0_E.sl.r, kernelRun0_E.sl.r_1, kernelRun0_E.sl.r_10, kernelRun0_E.sl.r_11, kernelRun0_E.sl.r_12, kernelRun0_E.sl.r_13, kernelRun0_E.sl.r_14, kernelRun0_E.sl.r_15, kernelRun0_E.sl.r_16, kernelRun0_E.sl.r_17, kernelRun0_E.sl.r_18, kernelRun0_E.sl.r_19, kernelRun0_E.sl.r_2, kernelRun0_E.sl.r_20, kernelRun0_E.sl.r_21, kernelRun0_E.sl.r_22, kernelRun0_E.sl.r_23, kernelRun0_E.sl.r_24, kernelRun0_E.sl.r_25, kernelRun0_E.sl.r_26, kernelRun0_E.sl.r_27, kernelRun0_E.sl.r_28, kernelRun0_E.sl.r_29, kernelRun0_E.sl.r_3, kernelRun0_E.sl.r_30, kernelRun0_E.sl.r_31, kernelRun0_E.sl.r_32, kernelRun0_E.sl.r_33, kernelRun0_E.sl.r_34, kernelRun0_E.sl.r_35, kernelRun0_E.sl.r_36, kernelRun0_E.sl.r_37, kernelRun0_E.sl.r_38, kernelRun0_E.sl.r_4, kernelRun0_E.sl.r_5, kernelRun0_E.sl.r_6, kernelRun0_E.sl.r_7, kernelRun0_E.sl.r_8, kernelRun0_E.sl.r_9, kernelRun0_E.sl.v0, kernelRun0_E.sl.v1, kernelRun0_E.sl.v2, kernelRun0_E.sl.v7, kernelRun0_E.sl.v8, kernelRun0_E.sl.v81, kernelRun0_E.sl.v9, v192_E, whole_read harg3 x0 (funext w4), whole_read harg4 x1 (funext w4), whole_read harg5 x2 (funext w3),
    whole_read harg6 x3 (funext w3), whole_read harg7 x4 (funext w3),
    word_read harg9 xs0 (off := ![0]) (0 : Fin 3) rfl, word_read harg9 xs0 (off := ![1]) (1 : Fin 3) rfl, word_read harg9 xs0 (off := ![2]) (2 : Fin 3) rfl,
    word_read harg8 xo5 (off := ![0]) (0 : Fin 2) rfl, word_read harg8 xo5 (off := ![1]) (1 : Fin 2) rfl]
  funext y
  have hy : (y 0).val < 2 := (y 0).isLt
  rw [View.read_writes_cons_cell, View.read_writes_cons_cell]
  simp only [outStep, accStep, tileFg, tileBox, tileCls, best, hits, boxNo, Matrix.cons_val_fin_one, c3, c2]
  by_cases h1 : (y 0).val = 1
  · rw [if_pos h1, if_pos h1]; rfl
  · rw [if_neg h1, if_neg h1, if_pos (by omega)]; rfl

end Cert.KernelIdeal.Body

end
-- ==== Proof.Body.Frame.lean ====
/- The pipeline of the kernel run point by point: what the accumulator and the output hold after each grid point, the
   invariant the points keep, and the launch: the arguments end unchanged and the output array ends at what the last
   point leaves. -/
module

public import proofs.«01_k».proof.Proof.Body.CaseA
public import proofs.«01_k».proof.Proof.Body.CaseB
public import proofs.«01_k».proof.Proof.Body.CaseC
public import proofs.«01_k».proof.Proof.Body.CaseD
public import proofs.«01_k».proof.Proof.Body.CaseE
public import Idealize.ShloMosaic.Lib.Claim
public import Idealize.ShloMosaic.Lib.Pipeline.TableIdle

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## When the output window is written -/

/-- Before which points the output buffer has not yet been written since it was last sent out. -/
def freshTab0_5 : ℕ → Bool
  | 0 => true
  | n + 1 => (0x80000 : ℕ).testBit n

theorem freshTab0_5_step : ∀ t : Fin cfg0.N, freshTab0_5 (t.val + 1) = ((cfg0.win 5).flush t || (cfg0.idle 5 (cfg0.grid.coords t) && freshTab0_5 t.val)) := by
  decide +kernel

theorem fresh0_5_eq (t : Fin cfg0.N) : cfg0.fresh 5 t.val = freshTab0_5 t.val :=
  Pipeline.Cfg.fresh_tab cfg0 5 freshTab0_5 rfl freshTab0_5_step t.val (Nat.le_of_lt t.isLt)

/-- The output is written at the first point and at the last tile of each batch, -/
theorem live0_5 : ∀ t : Fin cfg0.N, (t.val = 0 ∨ t.val % 5 = 4) → cfg0.idle 5 (cfg0.grid.coords t) = false := by decide +kernel
/-- at no other, -/
theorem idle0_5 : ∀ t : Fin cfg0.N, t.val ≠ 0 → t.val % 5 ≠ 4 → cfg0.idle 5 (cfg0.grid.coords t) = true := by decide +kernel
/-- and sent out at none of the others. -/
theorem noFlush0_5 : ∀ t : Fin cfg0.N, t.val % 5 ≠ 4 → (cfg0.win 5).flush t = false := by decide +kernel
theorem notFresh0_5 : ∀ t : Fin cfg0.N, t.val ≠ 0 → cfg0.fresh 5 t.val = false := by
  intro t
  rw [fresh0_5_eq t]
  revert t
  decide +kernel

/-! ## What the accumulator and the output hold after each point -/

/-- The accumulator after the tile of point `t`, from what it held. -/
def tileAcc (c : Dev nD) (t : Fin cfg0.N) (a : Vec F S3 .f32) : Vec F S3 .f32 :=
  accStep (tileFg (iblk m c 1 t) (iblk m c 2 t)) (tileBox (iblk m c 0 t) (iblk m c 1 t) (iblk m c 2 t) (iblk m c 3 t))
    (tileCls (iblk m c 1 t) (iblk m c 2 t) (iblk m c 4 t) (scores c t (V m c main_arg0))) a

/-- The output and the accumulator after point `n`. -/
def outsAt0 (c : Dev nD) : (n : ℕ) → n < cfg0.N → Vec F S2 .f32 × Vec F S3 .f32
  | 0, h => (fun _ => zero0, tileAcc m c ⟨0, h⟩ (fun _ => zero0))
  | n + 1, h =>
    (if (n + 1) % 5 = 4 then
        outStep (tileAcc m c ⟨n + 1, h⟩ (if (n + 1) % 5 = 0 then fun _ => zero0 else (outsAt0 c n (by omega)).2)) (outsAt0 c n (by omega)).1
      else (outsAt0 c n (by omega)).1,
      tileAcc m c ⟨n + 1, h⟩ (if (n + 1) % 5 = 0 then fun _ => zero0 else (outsAt0 c n (by omega)).2))

/-- At a batch's first tile the accumulator starts from zero, -/
theorem acc_clear (c : Dev nD) (t : Fin cfg0.N) (h : t.val % 5 = 0) : (outsAt0 m c t.val t.isLt).2 = tileAcc m c t (fun _ => zero0) := by
  obtain ⟨n, hn⟩ := t
  match n, hn with
  | 0, hn => rfl
  | n + 1, hn => show tileAcc m c ⟨n + 1, hn⟩ _ = _; rw [if_pos h]
/-- at another it goes on from the point before. -/
theorem acc_keep (c : Dev nD) (t : Fin cfg0.N) (h : t.val % 5 ≠ 0) :
    (outsAt0 m c t.val t.isLt).2 = tileAcc m c t (outsAt0 m c (t.val - 1) (Nat.lt_of_le_of_lt (Nat.sub_le _ _) t.isLt)).2 := by
  obtain ⟨n, hn⟩ := t
  match n, hn with
  | 0, hn => exact absurd rfl h
  | n + 1, hn => show tileAcc m c ⟨n + 1, hn⟩ _ = _; rw [if_neg h]; rfl
/-- The output is cleared at the first point, -/
theorem out_first (c : Dev nD) (t : Fin cfg0.N) (h : t.val = 0) : (outsAt0 m c t.val t.isLt).1 = fun _ => zero0 := by
  obtain ⟨n, hn⟩ := t
  subst h
  rfl
/-- takes the batch's losses at a batch's last tile, -/
theorem out_last (c : Dev nD) (t : Fin cfg0.N) (h : t.val % 5 = 4) :
    (outsAt0 m c t.val t.isLt).1 = outStep (tileAcc m c t (outsAt0 m c (t.val - 1) (Nat.lt_of_le_of_lt (Nat.sub_le _ _) t.isLt)).2)
      (outsAt0 m c (t.val - 1) (Nat.lt_of_le_of_lt (Nat.sub_le _ _) t.isLt)).1 := by
  obtain ⟨n, hn⟩ := t
  match n, hn with
  | 0, hn => exact absurd (show 0 % 5 = 4 from h) (by decide)
  | n + 1, hn =>
    have h' : (n + 1) % 5 = 4 := h
    have h0 : ¬(n + 1) % 5 = 0 := by omega
    show (if (n + 1) % 5 = 4 then outStep (tileAcc m c ⟨n + 1, hn⟩ (if (n + 1) % 5 = 0 then _ else _)) _ else _) = _
    rw [if_pos h', if_neg h0]; rfl
/-- and is left alone at every other. -/
theorem out_keep (c : Dev nD) (t : Fin cfg0.N) (h0 : t.val ≠ 0) (h : t.val % 5 ≠ 4) :
    (outsAt0 m c t.val t.isLt).1 = (outsAt0 m c (t.val - 1) (Nat.lt_of_le_of_lt (Nat.sub_le _ _) t.isLt)).1 := by
  obtain ⟨n, hn⟩ := t
  match n, hn with
  | 0, hn => exact absurd rfl h0
  | n + 1, hn =>
    have h' : ¬(n + 1) % 5 = 4 := h
    show (if (n + 1) % 5 = 4 then _ else _) = _
    rw [if_neg h']; rfl

/-! ## The pipeline's proof data -/

/-- The accumulator before point `n`: anything before the first, what the point before left afterwards. -/
def accHeld (c : Dev nD) : (n : ℕ) → n ≤ cfg0.N → sProp 𝕄
  | 0, _ => iprop(∃ d, owns (c : Thread nD τ) scM0_0 fullShare d)
  | n + 1, h => owns (c : Thread nD τ) scM0_0 fullShare (outsAt0 m c n h).2

theorem accHeld_first (c : Dev nD) (n : ℕ) (h : n ≤ cfg0.N) (h0 : n = 0) :
    accHeld m c n h = iprop(∃ d, owns (c : Thread nD τ) scM0_0 fullShare d) := by subst h0; rfl
theorem accHeld_next (c : Dev nD) (t : Fin cfg0.N) (h0 : t.val ≠ 0) :
    accHeld m c t.val (Nat.le_of_lt t.isLt)
      = owns (c : Thread nD τ) scM0_0 fullShare (outsAt0 m c (t.val - 1) (Nat.lt_of_le_of_lt (Nat.sub_le _ _) t.isLt)).2 := by
  obtain ⟨n, hn⟩ := t
  match n, hn with
  | 0, hn => exact absurd rfl h0
  | n + 1, hn => rfl

/-- What the points keep, before point `k`: the accumulator, the generator register at some state, and the transfers'
    ring of slots. -/
def PhiR (c : Dev nD) (k : ℕ) (h : k ≤ cfg0.N) : sProp 𝕄 :=
  iprop(accHeld m c k h ∗ (∃ r, prngReg c r) ∗ ringAt0_0 c (V m c main_arg0) k)

/-- The proof data of the pipeline on core `c`: the arrays as the pipeline finds them; after the body at point `t` each
    input's buffer at its block and the output's at what the point leaves; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiR m c t.val (Nat.le_of_lt_succ t.isLt)
  q _ := fullShare
  owed _ := 0

/-- The arrays of the proof data are what the pipeline finds. -/
theorem A_eq (c : Dev nD) (w : Fin cfg0.W) : (dats m 0 c).A w = V m c (Pipeline.arrRef spec0 w) := by
  dsimp only [dats]

theorem PhiR_castSucc (c : Dev nD) (t : Fin cfg0.N) : (dats m 0 c).Φ t.castSucc = PhiR m c t.val (Nat.le_of_lt t.isLt) := by
  dsimp only [dats]; simp only [Fin.val_castSucc]
theorem PhiR_succ (c : Dev nD) (t : Fin cfg0.N) : (dats m 0 c).Φ t.succ = PhiR m c (t.val + 1) t.isLt := by
  dsimp only [dats]; simp only [Fin.val_succ]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input's current buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- At a point that leaves the output alone it holds what the point before left. -/
theorem hcarry0_5 (c : Dev nD) (t : Fin cfg0.N) (h0 : t.val ≠ 0) (hi : cfg0.idle 5 (cfg0.grid.coords t) = true)
    (_ : cfg0.fresh 5 t.val = false) : (dats m 0 c).after 5 t = (dats m 0 c).after 5 ⟨t.val - 1, by omega⟩ := by
  have h4 : t.val % 5 ≠ 4 := fun h => by
    rw [live0_5 t (Or.inr h)] at hi
    exact Bool.false_ne_true hi
  rw [after0_5, after0_5]
  exact out_keep m c t h0 h4

/-- The output's buffer at any point but the first holds what the point before left. -/
theorem before0_5 (c : Dev nD) (t : Fin cfg0.N) (h0 : t.val ≠ 0) (d) :
    (dats m 0 c).before 5 t d = (outsAt0 m c (t.val - 1) (Nat.lt_of_le_of_lt (Nat.sub_le _ _) t.isLt)).1 := by
  rw [Dat.before_out_traj _ 5 rfl (fun _ _ => rfl) (hcarry0_5 m c) t.val t rfl d, if_neg (by rw [notFresh0_5 t h0]; exact Bool.false_ne_true)]
  dsimp only [dats]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
/-- The body at the first point. -/
theorem sound_A (c : Dev nD) (t : Fin cfg0.N) (h0 : t.val % 20 = 0) (h1 : t.val % 5 = 0) (h2 : t.val < 19) (h3 : ¬t.val % 5 = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 20 := N_0
  have hN : t.val < 20 := lt_of_lt_of_eq t.isLt (show cfg0.N = 20 from N_0)
  have hz : t.val = 0 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [live0_5 t (Or.inl hz)], after0_5]
  have hr0 := rstep0_0_A t ((hcond0_0 t).mpr h0) ((hcond0_1 t).mpr h1) ((hcond0_2 t).mpr h2) (fun h => h3 ((hcond0_3 t).mp h))
  rw [show accHeld m c (t.val + 1) t.isLt = owns (c : Thread nD τ) scM0_0 fullShare (outsAt0 m c t.val t.isLt).2 from rfl]
  rw [accHeld_first m c t.val _ hz, acc_clear m c t h1, out_first m c t hz]
  obtain ⟨hK00, hK10⟩ := hr0
  rw [if_pos hK00, if_neg (show ¬t.val + 1 = 0 by omega)]
  rw [Ring.At₀_eq2' _ _ _ t.val hK00 (by decide : 2 ≤ 20), Ring.AtK2_one' _ _ _ _ _ t.val hK00 (by decide : 1 < 20)]
  iintro ⟨⟨HS0, Hg, ⟨-, Hfr0_0_0, Hfr0_0_1⟩⟩, ⟨%W, -, HW⟩, ⟨%d0, H0⟩, ⟨%d1, H1⟩, ⟨%d2, H2⟩, ⟨%d3, H3⟩, ⟨%d4, H4⟩, ⟨%d5, H5⟩⟩
  iapply ((kernelRun0_A c t _ _ _ _ _ _ _ _ _ _ _ _ _ _ ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (V m c main_arg0)).2.2 W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [Hfr0_0_0]; · iexact Hfr0_0_0
  isplitl [Hfr0_0_1]; · iexact Hfr0_0_1
  isplitl [HW]; · iexact HW
  iintro ⟨H0, H1, H2, H3, H4, ⟨%g5, H5⟩, ⟨%gs0, HS0⟩, Hfl0_0', Hkp0_0', ⟨%W', HW'⟩⟩
  isplitl [HS0 Hg Hfl0_0' Hkp0_0']
  · isplitl [HS0]
    · unfold owns; iexists _; isplitr; swap; · iexact HS0
      ipureintro; exact acc_A c t _ _ _ _ _ _ _ _ _ _ _ _ _ _ ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (V m c main_arg0) gs0
    isplitl [Hg]; · iexact Hg
    iapply Ring.with_homes₀
    isplitl [Hfl0_0']; · iexact Hfl0_0'
    iexact Hkp0_0'
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr; swap; · iexact H5
  ipureintro; exact out_A c t _ _ _ _ _ _ _ _ _ _ _ _ _ _ ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (V m c main_arg0) g5

set_option maxHeartbeats 4000000 in
/-- The body at a tile inside a batch. -/
theorem sound_B (c : Dev nD) (t : Fin cfg0.N) (h0 : ¬t.val % 20 = 0) (h1 : ¬t.val % 5 = 0) (h2 : t.val < 19) (h3 : ¬t.val % 5 = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 20 := N_0
  have hN : t.val < 20 := lt_of_lt_of_eq t.isLt (show cfg0.N = 20 from N_0)
  have hz : t.val ≠ 0 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [Dat.leavesExact_idle (dats m 0 c) 5 t (idle0_5 t hz h3) (noFlush0_5 t h3)]
  have hr0 := rstep0_0_B t (fun h => h0 ((hcond0_0 t).mp h)) (fun h => h1 ((hcond0_1 t).mp h)) ((hcond0_2 t).mpr h2) (fun h => h3 ((hcond0_3 t).mp h))
  rw [show accHeld m c (t.val + 1) t.isLt = owns (c : Thread nD τ) scM0_0 fullShare (outsAt0 m c t.val t.isLt).2 from rfl]
  rw [accHeld_next m c t hz, acc_keep m c t h1]
  obtain ⟨hK10, hKB0, hKs0⟩ := hr0
  rw [if_neg (show ¬t.val = 0 by omega), if_neg (show ¬t.val + 1 = 0 by omega)]
  rw [Ring.AtK2_here _ _ _ _ _ t.val hK10 hKB0, Ring.AtK2_next _ _ _ _ _ t.val hK10 hKB0]
  iintro ⟨⟨HS0, Hg, ⟨-, Hfl0_0, Hkp0_0⟩⟩, ⟨%W, -, HW⟩, ⟨%d0, H0⟩, ⟨%d1, H1⟩, ⟨%d2, H2⟩, ⟨%d3, H3⟩, ⟨%d4, H4⟩, ⟨%d5, H5⟩⟩
  iapply ((kernelRun0_B c t _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (V m c main_arg0) _ (outsAt0 m c (t.val - 1) (Nat.lt_of_le_of_lt (Nat.sub_le _ _) t.isLt)).2).2 W _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [Hfl0_0]; · iexact Hfl0_0
  isplitl [Hkp0_0]; · iexact Hkp0_0
  isplitl [HW]; · iexact HW
  iintro ⟨H0, H1, H2, H3, H4, H5, ⟨%gs0, HS0⟩, Hfl0_0', Hkp0_0', ⟨%W', HW'⟩⟩
  isplitl [HS0 Hg Hfl0_0' Hkp0_0']
  · isplitl [HS0]
    · unfold owns; iexists _; isplitr; swap; · iexact HS0
      ipureintro; exact acc_B c t _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (V m c main_arg0) _ (outsAt0 m c (t.val - 1) (Nat.lt_of_le_of_lt (Nat.sub_le _ _) t.isLt)).2 gs0
    isplitl [Hg]; · iexact Hg
    iapply (Ring.with_homes (Idealize.SL.BI.Entails.refl _))
    isplitl [Hfl0_0']; · iexact Hfl0_0'
    iexact Hkp0_0'
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexists _; iexact H5

set_option maxHeartbeats 4000000 in
/-- The body at the last tile of a batch before the last. -/
theorem sound_C (c : Dev nD) (t : Fin cfg0.N) (h0 : ¬t.val % 20 = 0) (h1 : ¬t.val % 5 = 0) (h2 : t.val < 19) (h3 : t.val % 5 = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 20 := N_0
  have hN : t.val < 20 := lt_of_lt_of_eq t.isLt (show cfg0.N = 20 from N_0)
  have hz : t.val ≠ 0 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [live0_5 t (Or.inr h3)], after0_5]
  simp only [before0_5 m c t hz]
  have hr0 := rstep0_0_C t (fun h => h0 ((hcond0_0 t).mp h)) (fun h => h1 ((hcond0_1 t).mp h)) ((hcond0_2 t).mpr h2) ((hcond0_3 t).mpr h3)
  rw [show accHeld m c (t.val + 1) t.isLt = owns (c : Thread nD τ) scM0_0 fullShare (outsAt0 m c t.val t.isLt).2 from rfl]
  rw [accHeld_next m c t hz, acc_keep m c t h1, out_last m c t h3]
  obtain ⟨hK10, hKB0, hKs0⟩ := hr0
  rw [if_neg (show ¬t.val = 0 by omega), if_neg (show ¬t.val + 1 = 0 by omega)]
  rw [Ring.AtK2_here _ _ _ _ _ t.val hK10 hKB0, Ring.AtK2_next _ _ _ _ _ t.val hK10 hKB0]
  iintro ⟨⟨HS0, Hg, ⟨-, Hfl0_0, Hkp0_0⟩⟩, ⟨%W, -, HW⟩, ⟨%d0, H0⟩, ⟨%d1, H1⟩, ⟨%d2, H2⟩, ⟨%d3, H3⟩, ⟨%d4, H4⟩, ⟨%d5, H5⟩⟩
  iapply ((kernelRun0_C c t _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (V m c main_arg0) (outsAt0 m c (t.val - 1) (Nat.lt_of_le_of_lt (Nat.sub_le _ _) t.isLt)).1 (outsAt0 m c (t.val - 1) (Nat.lt_of_le_of_lt (Nat.sub_le _ _) t.isLt)).2).2.2 W _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [Hfl0_0]; · iexact Hfl0_0
  isplitl [Hkp0_0]; · iexact Hkp0_0
  isplitl [HW]; · iexact HW
  iintro ⟨H0, H1, H2, H3, H4, ⟨%g5, H5⟩, ⟨%gs0, HS0⟩, Hfl0_0', Hkp0_0', ⟨%W', HW'⟩⟩
  isplitl [HS0 Hg Hfl0_0' Hkp0_0']
  · isplitl [HS0]
    · unfold owns; iexists _; isplitr; swap; · iexact HS0
      ipureintro; exact acc_C c t _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (V m c main_arg0) (outsAt0 m c (t.val - 1) (Nat.lt_of_le_of_lt (Nat.sub_le _ _) t.isLt)).1 (outsAt0 m c (t.val - 1) (Nat.lt_of_le_of_lt (Nat.sub_le _ _) t.isLt)).2 gs0
    isplitl [Hg]; · iexact Hg
    iapply (Ring.with_homes (Idealize.SL.BI.Entails.refl _))
    isplitl [Hfl0_0']; · iexact Hfl0_0'
    iexact Hkp0_0'
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr; swap; · iexact H5
  ipureintro; exact out_C c t _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (V m c main_arg0) (outsAt0 m c (t.val - 1) (Nat.lt_of_le_of_lt (Nat.sub_le _ _) t.isLt)).1 (outsAt0 m c (t.val - 1) (Nat.lt_of_le_of_lt (Nat.sub_le _ _) t.isLt)).2 g5

set_option maxHeartbeats 4000000 in
/-- The body at the first tile of a later batch. -/
theorem sound_D (c : Dev nD) (t : Fin cfg0.N) (h0 : ¬t.val % 20 = 0) (h1 : t.val % 5 = 0) (h2 : t.val < 19) (h3 : ¬t.val % 5 = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 20 := N_0
  have hN : t.val < 20 := lt_of_lt_of_eq t.isLt (show cfg0.N = 20 from N_0)
  have hz : t.val ≠ 0 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [Dat.leavesExact_idle (dats m 0 c) 5 t (idle0_5 t hz h3) (noFlush0_5 t h3)]
  have hr0 := rstep0_0_D t (fun h => h0 ((hcond0_0 t).mp h)) ((hcond0_1 t).mpr h1) ((hcond0_2 t).mpr h2) (fun h => h3 ((hcond0_3 t).mp h))
  rw [show accHeld m c (t.val + 1) t.isLt = owns (c : Thread nD τ) scM0_0 fullShare (outsAt0 m c t.val t.isLt).2 from rfl]
  rw [accHeld_next m c t hz, acc_clear m c t h1]
  obtain ⟨hK10, hKB0, hKs0⟩ := hr0
  rw [if_neg (show ¬t.val = 0 by omega), if_neg (show ¬t.val + 1 = 0 by omega)]
  rw [Ring.AtK2_here _ _ _ _ _ t.val hK10 hKB0, Ring.AtK2_next _ _ _ _ _ t.val hK10 hKB0]
  iintro ⟨⟨HS0, Hg, ⟨-, Hfl0_0, Hkp0_0⟩⟩, ⟨%W, -, HW⟩, ⟨%d0, H0⟩, ⟨%d1, H1⟩, ⟨%d2, H2⟩, ⟨%d3, H3⟩, ⟨%d4, H4⟩, ⟨%d5, H5⟩⟩
  iapply ((kernelRun0_D c t _ _ _ _ _ _ _ _ _ _ _ _ _ _ (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (V m c main_arg0) _).2 W _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [Hfl0_0]; · iexact Hfl0_0
  isplitl [Hkp0_0]; · iexact Hkp0_0
  isplitl [HW]; · iexact HW
  iintro ⟨H0, H1, H2, H3, H4, H5, ⟨%gs0, HS0⟩, Hfl0_0', Hkp0_0', ⟨%W', HW'⟩⟩
  isplitl [HS0 Hg Hfl0_0' Hkp0_0']
  · isplitl [HS0]
    · unfold owns; iexists _; isplitr; swap; · iexact HS0
      ipureintro; exact acc_D c t _ _ _ _ _ _ _ _ _ _ _ _ _ _ (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (V m c main_arg0) _ gs0
    isplitl [Hg]; · iexact Hg
    iapply (Ring.with_homes (Idealize.SL.BI.Entails.refl _))
    isplitl [Hfl0_0']; · iexact Hfl0_0'
    iexact Hkp0_0'
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexists _; iexact H5

set_option maxHeartbeats 4000000 in
/-- The body at the last point. -/
theorem sound_E (c : Dev nD) (t : Fin cfg0.N) (h0 : ¬t.val % 20 = 0) (h1 : ¬t.val % 5 = 0) (h2 : ¬t.val < 19) (h3 : t.val % 5 = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 20 := N_0
  have hN : t.val < 20 := lt_of_lt_of_eq t.isLt (show cfg0.N = 20 from N_0)
  have hz : t.val ≠ 0 := by omega
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [live0_5 t (Or.inr h3)], after0_5]
  simp only [before0_5 m c t hz]
  have hr0 := rstep0_0_E t (fun h => h0 ((hcond0_0 t).mp h)) (fun h => h1 ((hcond0_1 t).mp h)) (fun h => h2 ((hcond0_2 t).mp h)) ((hcond0_3 t).mpr h3)
  rw [show accHeld m c (t.val + 1) t.isLt = owns (c : Thread nD τ) scM0_0 fullShare (outsAt0 m c t.val t.isLt).2 from rfl]
  rw [accHeld_next m c t hz, acc_keep m c t h1, out_last m c t h3]
  obtain ⟨hK10, hKB0, hKs0⟩ := hr0
  rw [if_neg (show ¬t.val = 0 by omega), if_neg (show ¬t.val + 1 = 0 by omega)]
  rw [Ring.AtK2_here_last _ _ _ _ _ t.val hK10 hKB0, Ring.AtK2_next_last _ _ _ _ _ t.val hK10 hKB0]
  iintro ⟨⟨HS0, Hg, ⟨-, Hfl0_0, Hkp0_0⟩⟩, ⟨%W, -, HW⟩, ⟨%d0, H0⟩, ⟨%d1, H1⟩, ⟨%d2, H2⟩, ⟨%d3, H3⟩, ⟨%d4, H4⟩, ⟨%d5, H5⟩⟩
  iapply ((kernelRun0_E c t _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (V m c main_arg0) (outsAt0 m c (t.val - 1) (Nat.lt_of_le_of_lt (Nat.sub_le _ _) t.isLt)).1 (outsAt0 m c (t.val - 1) (Nat.lt_of_le_of_lt (Nat.sub_le _ _) t.isLt)).2).2.2 W _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [Hfl0_0]; · iexact Hfl0_0
  isplitl [HW]; · iexact HW
  iintro ⟨H0, H1, H2, H3, H4, ⟨%g5, H5⟩, ⟨%gs0, HS0⟩, Hkp0_0', ⟨%W', HW'⟩⟩
  isplitl [HS0 Hg Hkp0_0 Hkp0_0']
  · isplitl [HS0]
    · unfold owns; iexists _; isplitr; swap; · iexact HS0
      ipureintro; exact acc_E c t _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (V m c main_arg0) (outsAt0 m c (t.val - 1) (Nat.lt_of_le_of_lt (Nat.sub_le _ _) t.isLt)).1 (outsAt0 m c (t.val - 1) (Nat.lt_of_le_of_lt (Nat.sub_le _ _) t.isLt)).2 gs0
    isplitl [Hg]; · iexact Hg
    iapply (Ring.with_homes (Idealize.SL.BI.Entails.refl _))
    isplitl [Hkp0_0]; · iexact Hkp0_0
    iexact Hkp0_0'
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr; swap; · iexact H5
  ipureintro; exact out_E c t _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (V m c main_arg0) (outsAt0 m c (t.val - 1) (Nat.lt_of_le_of_lt (Nat.sub_le _ _) t.isLt)).1 (outsAt0 m c (t.val - 1) (Nat.lt_of_le_of_lt (Nat.sub_le _ _) t.isLt)).2 g5

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 20 := lt_of_lt_of_eq t.isLt (show cfg0.N = 20 from N_0)
  by_cases h0 : t.val % 20 = 0
  · exact sound_A m c t h0 (by omega) (by omega) (by omega)
  by_cases h1 : t.val % 5 = 0
  · exact sound_D m c t h0 h1 (by omega) (by omega)
  by_cases h2 : t.val < 19
  · by_cases h3 : t.val % 5 = 4
    · exact sound_C m c t h0 h1 h2 h3
    · exact sound_B m c t h0 h1 h2 h3
  · exact sound_E m c t h0 h1 h2 (by omega)

/-- The body table's row at point `t`'s slots is the body at `t`. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the pipeline is what the points keep before the first, -/
theorem hin (c : Dev nD) : Pipeline.ΦD osem0 spec0 H0 (V m) c ⊢ (dats m 0 c).Φ 0 := by
  rw [PhiD0_eq, show (dats m 0 c).Φ 0 = PhiR m c 0 (Nat.zero_le _) from rfl]
  unfold PhiR
  rw [accHeld_first m c 0 _ rfl]
  iintro ⟨⟨HR0_0, HS0⟩, Hg, ⟨Hq0, Hq1⟩, Hh0⟩
  isplitl [HS0]; · iexact HS0
  isplitl [Hg]; · iexact Hg
  iapply (ring0_0_in (F := F) m c)
  isplitl [HR0_0]; · iexact HR0_0
  isplitl [Hq0 Hq1]
  · isplitl [Hq0]; · iexact Hq0
    iexact Hq1
  iexact Hh0

/-- and what they keep after the last hands it back. -/
theorem hout (c : Dev nD) : (dats m 0 c).Φ (Fin.last cfg0.N) ⊢ Pipeline.ΦD osem0 spec0 H0 (V m) c := by
  have hg : cfg0.N = 20 := N_0
  rw [PhiD0_eq, show (dats m 0 c).Φ (Fin.last cfg0.N) = PhiR m c cfg0.N (Nat.le_refl _) from rfl]
  unfold PhiR
  rw [show accHeld m c cfg0.N (Nat.le_refl _) = owns (c : Thread nD τ) scM0_0 fullShare (outsAt0 m c 19 (by omega)).2 from rfl,
    show ringAt0_0 (F := F) c (V m c main_arg0) cfg0.N = ringAt0_0 c (V m c main_arg0) 20 from congrArg _ hg]
  iintro ⟨HS0, Hg, HR0_0⟩
  ihave HX0_0 := (ring0_0_out (F := F) m c) $$ HR0_0
  icases HX0_0 with ⟨HR0_0, ⟨Hq0, Hq1⟩, Hh0⟩
  isplitl [HS0 HR0_0]
  · isplitl [HR0_0]; · iexact HR0_0
    iexists _; iexact HS0
  isplitl [Hg]
  · iexact Hg
  isplitl [Hq0 Hq1]
  · isplitl [Hq0]; · iexact Hq0
    iexact Hq1
  iexact Hh0

/-! ## The launch -/

set_option backward.isDefEq.respectTransparency.types false in
/-- The launch: every execution ends, every array of the pipeline at what the proof data gives, every other buffer as the
    pipeline found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 2).trans (((dats m 0 c).arrAt_in 2 rfl _).trans ((A_eq m c 2).trans (V_main_arg3 m c))),
    ((h c).2 main_arg4 (Pipeline.mem_restRefs_of main_arg4 (by decide) (by decide))).trans (V_main_arg4 m c)⟩) (run_main m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Body

end
-- ==== Proof.Math.Anchor.lean ====
/- The loss as a function of numbers: the overlap of an anchor with a box, the box an anchor is matched with, the box loss
   and the classification loss of one anchor, and the two losses of a batch of images. -/
module

public import Idealize.ShloMosaic.Lib.Pointwise

@[expose] public section

noncomputable section

namespace Cert.Loss

open Idealize.ShloMosaic

/-- Four numbers: an anchor or a box by its centre and its size, or four predicted offsets. -/
abbrev Four := Fin 4 → EReal

/-- One half. -/
abbrev half : EReal := ((1 / 2 : ℝ) : EReal)

/-- The four sides of a box given by centre and size. -/
def left (s : Four) : EReal := s 0 - s 2 * half
def top (s : Four) : EReal := s 1 - s 3 * half
def right (s : Four) : EReal := s 0 + s 2 * half
def bottom (s : Four) : EReal := s 1 + s 3 * half

/-- The area two boxes share. -/
def shared (a t : Four) : EReal :=
  max 0 (min (right a) (right t) - max (left a) (left t)) * max 0 (min (bottom a) (bottom t) - max (top a) (top t))

/-- The area two boxes cover together. -/
def covered (a t : Four) : EReal :=
  (right a - left a) * (bottom a - top a) + (right t - left t) * (bottom t - top t) - shared a t

/-- The overlap of two boxes: the shared area over the covered one. -/
def overlap (a t : Four) : EReal := Ideal.div (shared a t) (covered a t)

/-- `i` is the first box with the greatest value of `f`. -/
def IsFirst (f : Fin 32 → EReal) (i : Fin 32) : Prop := (∀ k, f k ≤ f i) ∧ ∀ k, k < i → f k < f i

theorem IsFirst.unique {f : Fin 32 → EReal} {i j : Fin 32} (hi : IsFirst f i) (hj : IsFirst f j) : i = j := by
  rcases lt_trichotomy i j with h | h | h
  · exact absurd (hi.1 j) (not_le.mpr (hj.2 i h))
  · exact h
  · exact absurd (hj.1 i) (not_le.mpr (hi.2 j h))

theorem exists_first (f : Fin 32 → EReal) : ∃ i, IsFirst f i := by
  obtain ⟨m, -, hm⟩ := Finset.exists_max_image Finset.univ f Finset.univ_nonempty
  have hne : (Finset.univ.filter fun k => f k = f m).Nonempty := ⟨m, by simp⟩
  refine ⟨(Finset.univ.filter fun k => f k = f m).min' hne, ?_⟩
  have h := (Finset.mem_filter.mp (Finset.min'_mem _ hne)).2
  refine ⟨fun k => by rw [h]; exact hm k (Finset.mem_univ _), fun k hk => ?_⟩
  rw [h]
  refine lt_of_le_of_ne (hm k (Finset.mem_univ _)) fun he => ?_
  exact absurd (Finset.min'_le _ k (by simp [he])) (not_le.mpr hk)

/-- The first box with the greatest value. -/
def first (f : Fin 32 → EReal) : Fin 32 := (exists_first f).choose

theorem first_spec (f : Fin 32 → EReal) : IsFirst f (first f) := (exists_first f).choose_spec

theorem first_eq {f : Fin 32 → EReal} {i : Fin 32} (h : IsFirst f i) : first f = i := (first_spec f).unique h

/-- The greatest value. -/
def peak (f : Fin 32 → EReal) : EReal := f (first f)

/-- The value below which an anchor is background: `0.4` as a single. -/
abbrev lowBar : EReal := Ideal.ofBits .f32 0x3ECCCCCD#32

/-- The anchor belongs to a box. -/
abbrev Hit (f : Fin 32 → EReal) : Prop := half < peak f

open Classical in
/-- The anchor belongs to a box, as a number. -/
def hitN (f : Fin 32 → EReal) : ℝ := if Hit f then 1 else 0

open Classical in
/-- The anchor belongs to a box or is background, as a number. -/
def usedN (f : Fin 32 → EReal) : ℝ := if Hit f ∨ peak f < lowBar then 1 else 0

/-- The small number under the logarithm: `1e-8` as a single. -/
abbrev tiny : EReal := Ideal.ofBits .f32 0x322BCC77#32

/-- The offsets that take an anchor to a box. -/
def offsets (a t : Four) : Four := fun k =>
  if k.val < 2 then Ideal.div (t k - a k) (a (if k.val = 0 then 2 else 3)) * ((10 : ℝ) : EReal)
  else Ideal.log (Ideal.div (t k) (a k) + tiny) * ((5 : ℝ) : EReal)

open Classical in
/-- The smooth distance of two numbers. -/
def smooth (p g : EReal) : EReal :=
  if max (p - g) (-(p - g)) < 1 then half * max (p - g) (-(p - g)) * max (p - g) (-(p - g)) else max (p - g) (-(p - g)) - half

/-- The box loss of one anchor, `p` its predicted offsets. -/
def boxLoss (p a : Four) (t : Fin 32 → Four) : EReal :=
  (∑ k, smooth (p k) (offsets a (t (first fun i => overlap a (t i))) k)) * (hitN (fun i => overlap a (t i)) : EReal)

/-- The logarithm of one plus the exponential of a score. -/
def softplus (x : ℝ) : ℝ := max x 0 + Real.log (1 + Real.exp (-|x|))

/-- The logistic function. -/
def sig (x : ℝ) : ℝ := (1 + Real.exp (-x))⁻¹

/-- What a score costs where its class is absent. -/
def absent (x : ℝ) : ℝ := softplus x * sig x ^ 2

/-- What a score costs where its class is present. -/
def present (x : ℝ) : ℝ := (softplus x - x) * (1 - sig x) ^ 2

/-- The label is class `c` (labels count from one). -/
abbrev IsClass (l : BitVec 32) (c : Fin 80) : Prop := l = BitVec.ofNat 32 (c.val + 1)

open Classical in
/-- The classification loss of one anchor in one class. -/
def classLoss (f : Fin 32 → EReal) (l : Fin 32 → BitVec 32) (x : ℝ) (c : Fin 80) : ℝ :=
  usedN f * (if Hit f ∧ IsClass (l (first f)) c then 3 / 4 * present x else 1 / 4 * absent x)

end Cert.Loss

end
-- ==== Proof.Math.Consts.lean ====
/- The numbers the two programs write as literals, and sums of reals as sums of extended reals. -/
module

public import proofs.«01_k».proof.Proof.Math.Anchor

@[expose] public section

noncomputable section

namespace Cert.Loss

open Idealize.ShloMosaic

theorem lit_half : Ideal.ofBits .f32 0x3F000000#32 = half := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_four : Ideal.ofBits .f32 0x40800000#32 = ((4 : ℝ) : EReal) := by
  simp [Ideal.ofBits, Ideal.ieee, -EReal.coe_mul]; norm_num

theorem lit_five : Ideal.ofBits .f32 0x40A00000#32 = ((5 : ℝ) : EReal) := by
  simp [Ideal.ofBits, Ideal.ieee, -EReal.coe_mul]; norm_num

theorem lit_ten : Ideal.ofBits .f32 0x41200000#32 = ((10 : ℝ) : EReal) := by
  simp [Ideal.ofBits, Ideal.ieee, -EReal.coe_mul]; norm_num

theorem lit_quarter : Ideal.ofBits .f32 0x3E800000#32 = ((1 / 4 : ℝ) : EReal) := by
  simp [Ideal.ofBits, Ideal.ieee, -EReal.coe_mul]; norm_num

theorem lit_three_quarters : Ideal.ofBits .f32 0x3F400000#32 = ((3 / 4 : ℝ) : EReal) := by
  simp [Ideal.ofBits, Ideal.ieee, -EReal.coe_mul]; norm_num

theorem lit_minus_infinity : Ideal.ofBits .f32 0xFF800000#32 = ⊥ := by
  simp [Ideal.ofBits, Ideal.ieee]

theorem lit_infinity : Ideal.ofBits .f32 0x7F800000#32 = ⊤ := by
  simp [Ideal.ofBits, Ideal.ieee]

/-- `0.01` as a single. -/
theorem lit_hundredth : Ideal.ofBits .f32 0x3C23D70A#32 = ((10737418 / 2 ^ 30 : ℝ) : EReal) := by
  simp [Ideal.ofBits, Ideal.ieee, -EReal.coe_mul]; norm_num

/-- `1e-12` as a single. -/
theorem lit_speck : ∃ r : ℝ, Ideal.ofBits .f32 0x2B8CBCCC#32 = (r : EReal) ∧ r ≤ 1 / 10 ^ 6 := by
  refine ⟨9223372 / 2 ^ 63, ?_, by norm_num⟩
  simp [Ideal.ofBits, Ideal.ieee, -EReal.coe_mul]; norm_num

/-- A sum of reals is the same sum of extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite extended real is a real. -/
theorem real_of_abs_lt {x : EReal} (h : max x (-x) < ⊤) : ∃ r : ℝ, x = (r : EReal) := by
  induction x using EReal.rec with
  | bot => simp at h
  | top => simp at h
  | coe r => exact ⟨r, rfl⟩

/-- The smooth distance as the programs write it. -/
theorem smooth_if (p g : EReal) [Decidable (FloatOps.absf (F := Ideal) (φ := .f32) (p - g) < (1 : EReal))] :
    (if FloatOps.absf (F := Ideal) (φ := .f32) (p - g) < (1 : EReal)
      then half * FloatOps.absf (F := Ideal) (φ := .f32) (p - g) * FloatOps.absf (F := Ideal) (φ := .f32) (p - g)
      else FloatOps.absf (F := Ideal) (φ := .f32) (p - g) - half : EReal) = smooth p g := by
  unfold smooth
  congr

/-- The number of a flag held in one bit. -/
theorem flag_number (p : Prop) [Decidable p] (φ : FTy) :
    (FloatOps.sitofp (F := Ideal) φ (BitVec.setWidth 32 (BitVec.ofBool (decide p))) : EReal) = ((if p then 1 else 0 : ℝ) : EReal) := by
  by_cases h : p
  · simp only [h, decide_true, if_true]; exact congrArg (fun r : ℝ => (r : EReal)) (show (((BitVec.setWidth 32 (BitVec.ofBool true)).toInt : ℤ) : ℝ) = 1 by
      rw [show (BitVec.setWidth 32 (BitVec.ofBool true)).toInt = 1 by decide]; norm_num)
  · simp only [h, decide_false, if_false]; exact congrArg (fun r : ℝ => (r : EReal)) (show (((BitVec.setWidth 32 (BitVec.ofBool false)).toInt : ℤ) : ℝ) = 0 by
      rw [show (BitVec.setWidth 32 (BitVec.ofBool false)).toInt = 0 by decide]; norm_num)

/-- The greatest value is the greatest of all of them. -/
theorem fold_max (f : Fin 32 → EReal) : Finset.fold max ⊥ f Finset.univ = peak f := by
  refine le_antisymm ?_ ?_
  · exact (Finset.fold_max_le _).mpr ⟨bot_le, fun k _ => (first_spec f).1 k⟩
  · exact (Finset.le_fold_max _).mpr (Or.inr ⟨first f, Finset.mem_univ _, le_refl _⟩)

/-- The or of two flags. -/
theorem ori_flags (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

/-- The equality of two words, as a flag. -/
theorem cmpi_eq_flag {w : ℕ} (x y : BitVec w) : IntOp.cmpi .eq x y = BitVec.ofBool (decide (x = y)) := by
  unfold IntOp.cmpi
  congr 1

theorem toInt_small {n : ℕ} (h : n < 2 ^ 31) : (BitVec.ofNat 32 n).toInt = n := by
  rw [BitVec.toInt_ofNat']; unfold Int.bmod; norm_num; omega

theorem word_inj {m n : ℕ} (hm : m < 2 ^ 32) (hn : n < 2 ^ 32) (h : BitVec.ofNat 32 m = BitVec.ofNat 32 n) : m = n := by
  have h' := congrArg BitVec.toNat h
  rwa [BitVec.toNat_ofNat, BitVec.toNat_ofNat, Nat.mod_eq_of_lt hm, Nat.mod_eq_of_lt hn] at h'

/-- A box's number is the number an anchor is matched with exactly for an anchor that belongs to the box. -/
theorem pick_word (h : Prop) [Decidable h] (i j : Fin 32) :
    (BitVec.ofNat 32 i.val = if h then BitVec.ofNat 32 j.val else 4294967295#32) ↔ h ∧ i = j := by
  by_cases hh : h
  · rw [if_pos hh]
    refine ⟨fun e => ⟨hh, Fin.ext (word_inj (by omega) (by omega) e)⟩, fun e => by rw [e.2]⟩
  · rw [if_neg hh]
    refine ⟨fun e => ?_, fun e => absurd e.1 hh⟩
    have := word_inj (m := i.val) (n := 4294967295) (by omega) (by omega) e
    omega

open Classical in
/-- The least of the numbers of the boxes with the greatest value, `32` standing for a box without it, is the first such
    box's number. -/
theorem fold_min (f : Fin 32 → EReal) :
    Finset.fold IntOp.minsi (2147483647#32) (fun i : Fin 32 => if f i = peak f then BitVec.ofNat 32 i.val else 32#32) Finset.univ
      = BitVec.ofNat 32 (first f).val := by
  have key : ∀ s : Finset (Fin 32),
      (Finset.fold IntOp.minsi (2147483647#32) (fun i : Fin 32 => if f i = peak f then BitVec.ofNat 32 i.val else 32#32) s
        = if first f ∈ s then BitVec.ofNat 32 (first f).val
          else Finset.fold IntOp.minsi (2147483647#32) (fun i : Fin 32 => if f i = peak f then BitVec.ofNat 32 i.val else 32#32) s)
      ∧ (first f).val ≤ (Finset.fold IntOp.minsi (2147483647#32) (fun i : Fin 32 => if f i = peak f then BitVec.ofNat 32 i.val else 32#32) s).toInt := by
    intro s
    induction s using Finset.induction_on with
    | empty => refine ⟨by simp, ?_⟩; have := (first f).isLt; rw [Finset.fold_empty, show (2147483647#32).toInt = 2147483647 by decide]; omega
    | insert a s ha ih =>
      rw [Finset.fold_insert ha]
      generalize hy : Finset.fold IntOp.minsi (2147483647#32) (fun i : Fin 32 => if f i = peak f then BitVec.ofNat 32 i.val else 32#32) s = y at ih
      have hlt := (first f).isLt
      have hF : (BitVec.ofNat 32 (first f).val).toInt = (first f).val := toInt_small (by omega)
      have hx : (first f).val ≤ (if f a = peak f then BitVec.ofNat 32 a.val else 32#32).toInt := by
        by_cases h : f a = peak f
        · rw [if_pos h, toInt_small (by omega)]
          have : first f ≤ a := by
            by_contra hc
            exact absurd h (ne_of_lt ((first_spec f).2 a (not_le.mp hc)))
          exact_mod_cast this
        · rw [if_neg h, show (32#32).toInt = 32 by decide]; omega
      have hmin : ∀ x z : BitVec 32, IntOp.minsi x z = if x.toInt < z.toInt then x else z := by
        intro x z; unfold IntOp.minsi; simp only [BitVec.slt, decide_eq_true_eq]
      have hself : first f = a → (if f a = peak f then BitVec.ofNat 32 a.val else 32#32) = BitVec.ofNat 32 (first f).val := by
        intro hm; subst hm; exact if_pos rfl
      rw [hmin]
      generalize (if f a = peak f then BitVec.ofNat 32 a.val else 32#32) = z at hx hself ⊢
      refine ⟨?_, ?_⟩
      · by_cases hm : first f = a
        · rw [if_pos (show first f ∈ insert a s from by rw [hm]; exact Finset.mem_insert_self _ _), hself hm]
          by_cases hlt' : (BitVec.ofNat 32 (first f).val).toInt < y.toInt
          · rw [if_pos hlt']
          · rw [if_neg hlt']
            refine BitVec.eq_of_toInt_eq ?_
            have := ih.2
            omega
        · by_cases hs : first f ∈ s
          · rw [if_pos (Finset.mem_insert_of_mem hs)]
            have hy' := ih.1
            rw [if_pos hs] at hy'
            by_cases hlt' : z.toInt < y.toInt
            · rw [hy', hF] at hlt'; omega
            · rw [if_neg hlt', hy']
          · rw [if_neg (fun h => (Finset.mem_insert.mp h).elim hm hs)]
      · by_cases hlt' : z.toInt < y.toInt
        · rw [if_pos hlt']; exact hx
        · rw [if_neg hlt']; exact ih.2
  have h := (key Finset.univ).1
  rwa [if_pos (Finset.mem_univ _)] at h

end Cert.Loss

end
-- ==== Proof.Math.Tile.lean ====
/- What one tile of the kernel computes, as the loss of its ten thousand anchors: which box each anchor is matched with,
   and the tile's box loss. -/
module

public import proofs.«01_k».proof.Proof.Body.Tile
public import proofs.«01_k».proof.Proof.Math.Consts

@[expose] public section

set_option maxRecDepth 16384

noncomputable section

namespace Cert.KernelIdeal.Tile

open Cert.KernelIdeal Cert.KernelIdeal.Gen Cert.KernelIdeal.Body Cert.Loss
open Idealize.ShloMosaic

/-- Anchor `a` of a block of anchors, or its predicted offsets. -/
def anchor (x : Vec Ideal S1x1x4x10000 .f32) (a : Fin 10000) : Four := fun k => x (ix4 0 0 k a)
/-- Box `i` of a block of boxes. -/
def box (x : Vec Ideal S1x32x4 .f32) (i : Fin 32) : Four := fun k => x (ix3 0 i k)
/-- The overlaps of anchor `a` with the boxes. -/
abbrev laps (x1 : Vec Ideal S1x1x4x10000 .f32) (x2 : Vec Ideal S1x32x4 .f32) (a : Fin 10000) : Fin 32 → EReal :=
  fun i => overlap (anchor x1 a) (box x2 i)

variable (x0 x1 : Vec Ideal S1x1x4x10000 .f32) (x2 : Vec Ideal S1x32x4 .f32) (x3 : Vec Ideal S1x4x32 .f32)

theorem lap_apply (i : Fin 32) (a : Fin 10000) :
    k0_pay16 (k0_pay9 x1) (k0_pay10 x1) (k0_pay11 x1) (k0_pay12 x1) (k0_pay13 x2) (k0_pay14 x2) (k0_pay15 x2) (ix2 i a)
      = laps x1 x2 a i := by
  pointwise [k0_pay16, k0_pay9, k0_pay10, k0_pay11, k0_pay12, k0_pay13, k0_pay14, k0_pay15, k0_pay5, k0_pay6, k0_pay7, k0_pay8, k0_pay4]
  simp only [lit_half, overlap, covered, shared, left, right, top, bottom, anchor, box]

theorem best_apply (a : Fin 10000) : best x1 x2 (ix2 0 a) = peak (laps x1 x2 a) := by
  have h := lap_apply x1 x2
  generalize hB : k0_pay16 (k0_pay9 x1) (k0_pay10 x1) (k0_pay11 x1) (k0_pay12 x1) (k0_pay13 x2) (k0_pay14 x2) (k0_pay15 x2) = B at h
  pointwise [best, k0_pay17, hB]
  rw [lit_minus_infinity, ← fold_max]
  exact congrArg (fun f => Finset.fold max ⊥ f Finset.univ) (funext fun i => h i a)

open Classical in
theorem hits_apply (i : Fin 32) (a : Fin 10000) :
    hits x1 x2 (ix2 i a) = if laps x1 x2 a i = peak (laps x1 x2 a) then BitVec.ofNat 32 i.val else 32#32 := by
  have h := lap_apply x1 x2 i a
  have hb := best_apply x1 x2 a
  unfold best at hb
  generalize hC : k0_pay17 (k0_pay9 x1) (k0_pay10 x1) (k0_pay11 x1) (k0_pay12 x1) (k0_pay13 x2) (k0_pay14 x2) (k0_pay15 x2) = C at hb
  generalize hB : k0_pay16 (k0_pay9 x1) (k0_pay10 x1) (k0_pay11 x1) (k0_pay12 x1) (k0_pay13 x2) (k0_pay14 x2) (k0_pay15 x2) = B at h
  pointwise [hits, k0_pay18, hB, hC]
  rw [h, hb]

theorem fg_apply (a : Fin 10000) : tileFg x1 x2 (ix2 0 a) = (hitN (laps x1 x2 a) : EReal) := by
  have hb := best_apply x1 x2 a
  generalize hB : best x1 x2 = B at hb
  pointwise [tileFg, k0_pay20, k0_pay19, hB]
  rw [flag_number, hb, lit_half]
  unfold hitN
  congr

theorem used_apply (a : Fin 10000) : k0_pay21 (best x1 x2) (ix2 0 a) = (usedN (laps x1 x2 a) : EReal) := by
  have hb := best_apply x1 x2 a
  generalize hB : best x1 x2 = B at hb
  pointwise [k0_pay21, k0_pay19]
  rw [hb, lit_half, ori_flags, flag_number]
  unfold usedN
  congr

open Classical in
theorem pick_apply (i : Fin 32) (a : Fin 10000) :
    k0_pay22 (best x1 x2) boxNo (hits x1 x2) (ix2 i a)
      = ((if Hit (laps x1 x2 a) ∧ i = first (laps x1 x2 a) then 1 else 0 : ℝ) : EReal) := by
  have hb := best_apply x1 x2 a
  have hh := fun i => hits_apply x1 x2 i a
  generalize best x1 x2 = B at hb
  generalize hits x1 x2 = H at hh
  pointwise [k0_pay22, k0_pay19, boxNo]
  simp only [hh]
  rw [fold_min, hb, lit_half, cmpi_eq_flag, flag_number]
  refine congrArg _ (if_congr ?_ rfl rfl)
  exact pick_word _ _ _

end Cert.KernelIdeal.Tile
end
-- ==== Proof.Math.TileBox.lean ====
/- The box loss of one tile of the kernel is the sum of its anchors' box losses. -/
module

public import proofs.«01_k».proof.Proof.Math.Tile

@[expose] public section

set_option maxRecDepth 16384

noncomputable section

namespace Cert.KernelIdeal.Tile

open Cert.KernelIdeal Cert.KernelIdeal.Gen Cert.KernelIdeal.Body Cert.Loss
open Idealize.ShloMosaic

variable (x0 x1 : Vec Ideal S1x1x4x10000 .f32) (x2 : Vec Ideal S1x32x4 .f32) (x3 : Vec Ideal S1x4x32 .f32)

/-- The coordinates of the box of an anchor that belongs to one. -/
theorem target_apply (hx : ∀ i k, x3 (ix3 0 k i) = box x2 i k) (k : Fin 4) (a : Fin 10000) (h : Hit (laps x1 x2 a)) :
    k0_pay23 (best x1 x2) boxNo (hits x1 x2) x3 (ix2 k a) = box x2 (first (laps x1 x2 a)) k := by
  have hp := fun i => pick_apply x1 x2 i a
  generalize hQ : k0_pay22 (best x1 x2) boxNo (hits x1 x2) = Q at hp
  pointwise [k0_pay23, hQ]
  rw [Finset.sum_eq_single (first (laps x1 x2 a))]
  · rw [hp, if_pos ⟨h, rfl⟩, hx]; simp
  · intro i _ hi
    rw [hp, if_neg (fun e => hi e.2)]; simp
  · intro e; exact absurd (Finset.mem_univ _) e

theorem boxRow_apply (G : FVec Ideal S4x10000 .f32) (fg : FVec Ideal S1x10000 .f32) (B : FVec Ideal S1x10000 .f32) (H : IVec S32x10000 32)
    (hG : k0_pay23 B boxNo H x3 = G) :
    k0_pay34 fg
    (k0_pay29 (k0_pay24 x0) (k0_pay25 (k0_pay5 x1) (k0_pay7 x1) B boxNo H x3)
      (k0_pay26 (k0_pay6 x1) (k0_pay8 x1) B boxNo H x3)
      (k0_pay27 (k0_pay7 x1) B boxNo H x3))
    (k0_pay31 (k0_pay24 x0) (k0_pay28 (k0_pay8 x1) B boxNo H x3))
    (k0_pay32 (k0_pay24 x0) (k0_pay28 (k0_pay8 x1) B boxNo H x3))
    (k0_pay33 (k0_pay24 x0) (k0_pay28 (k0_pay8 x1) B boxNo H x3))
      = ∑ a : Fin 10000, (∑ k, smooth (anchor x0 a k) (offsets (anchor x1 a) (fun k => G (ix2 k a)) k)) * fg (ix2 0 a) := by
  pointwise [k0_pay34, k0_pay29, k0_pay31, k0_pay32, k0_pay33, k0_pay30, k0_pay28, k0_pay27, k0_pay26, k0_pay25, k0_pay24, k0_pay8, k0_pay7, k0_pay6, k0_pay5, k0_pay4, hG]
  simp only [Finset.univ_unique, Finset.sum_singleton]
  refine Finset.sum_congr rfl fun a _ => ?_
  rw [Fin.sum_univ_four]
  simp only [lit_half, lit_ten, lit_five, smooth_if]
  rfl

/-- The tile's box loss, when its two copies of the boxes agree. -/
theorem tileBox_apply (hx : ∀ i k, x3 (ix3 0 k i) = box x2 i k) :
    tileBox x0 x1 x2 x3 = ∑ a : Fin 10000, boxLoss (anchor x0 a) (anchor x1 a) (box x2) := by
  refine (boxRow_apply x0 x1 x3 _ _ _ _ rfl).trans (Finset.sum_congr rfl fun a _ => ?_)
  rw [fg_apply]
  unfold boxLoss
  by_cases h : Hit (laps x1 x2 a)
  · have ht : (fun k => k0_pay23 (best x1 x2) boxNo (hits x1 x2) x3 (ix2 k a)) = box x2 (first (laps x1 x2 a)) :=
      funext fun k => target_apply x1 x2 x3 hx k a h
    rw [ht]
  · have hz : hitN (laps x1 x2 a) = 0 := if_neg h
    rw [hz]; simp

end Cert.KernelIdeal.Tile
end
-- ==== Proof.Math.Focal.lean ====
/- The classification loss over real numbers: the kernel's three sums and the sum of the anchors' losses. -/
module

public import proofs.«01_k».proof.Proof.Math.Consts

@[expose] public section

noncomputable section

namespace Cert.Loss

open Idealize.ShloMosaic

open Classical in
/-- The sum over all anchors as if no class were present, less the absent-class costs of the classes present, plus their
    present-class costs, is the sum of the anchors' losses. -/
theorem focal_sum {α ι γ : Type} [Fintype α] [Fintype ι] [Fintype γ] (u : α → ℝ) (hit : α → Prop) (pick : α → ι)
    (lab : ι → γ → Prop) (A B : α → γ → ℝ) (h : ∀ a, hit a → u a = 1) :
    1 / 4 * (∑ c, ∑ a, u a * A a c
        - ∑ i, ∑ c, (∑ a, (if hit a ∧ i = pick a then 1 else 0) * A a c) * (if lab i c then 1 else 0))
      + 3 / 4 * ∑ i, ∑ c, (∑ a, (if hit a ∧ i = pick a then 1 else 0) * B a c) * (if lab i c then 1 else 0)
      = ∑ a, ∑ c, u a * (if hit a ∧ lab (pick a) c then 3 / 4 * B a c else 1 / 4 * A a c) := by
  have key : ∀ D : α → γ → ℝ,
      ∑ i, ∑ c, (∑ a, (if hit a ∧ i = pick a then (1 : ℝ) else 0) * D a c) * (if lab i c then 1 else 0)
        = ∑ a, ∑ c, if hit a ∧ lab (pick a) c then D a c else 0 := by
    intro D
    simp only [Finset.sum_mul]
    rw [Finset.sum_comm]
    have h1 : ∀ c, ∑ i, ∑ a, (if hit a ∧ i = pick a then (1 : ℝ) else 0) * D a c * (if lab i c then 1 else 0)
        = ∑ a, if hit a ∧ lab (pick a) c then D a c else 0 := by
      intro c
      rw [Finset.sum_comm]
      refine Finset.sum_congr rfl fun a _ => ?_
      rw [Finset.sum_eq_single (pick a)]
      · by_cases h1 : hit a <;> by_cases h2 : lab (pick a) c <;> simp [h1, h2]
      · intro i _ hi; simp [hi]
      · intro e; exact absurd (Finset.mem_univ _) e
    rw [Finset.sum_congr rfl fun c _ => h1 c, Finset.sum_comm]
  rw [key A, key B, Finset.sum_comm (f := fun c a => u a * A a c), ← Finset.sum_sub_distrib, Finset.mul_sum, Finset.mul_sum,
    ← Finset.sum_add_distrib]
  refine Finset.sum_congr rfl fun a _ => ?_
  rw [← Finset.sum_sub_distrib, Finset.mul_sum, Finset.mul_sum, ← Finset.sum_add_distrib]
  refine Finset.sum_congr rfl fun c _ => ?_
  by_cases h1 : hit a <;> by_cases h2 : lab (pick a) c <;> simp [h1, h2, h a] <;> ring

theorem hit_used {f : Fin 32 → EReal} (h : Hit f) : usedN f = 1 := by
  unfold usedN; exact if_pos (Or.inl h)

/-- The absolute value of a real. -/
theorem coe_abs (x : ℝ) : (FloatOps.absf (F := Ideal) (φ := .bf16) (x : EReal) : EReal) = ((|x| : ℝ) : EReal) := by
  show max (x : EReal) (-(x : EReal)) = _
  rw [← EReal.coe_neg, abs_eq_max_neg]
  exact (EReal.coe_strictMono.monotone.map_max (a := x) (b := -x)).symm

theorem one_add_exp_pos (y : ℝ) : 0 < 1 + Real.exp y := by positivity

theorem sig_of_nonneg {x : ℝ} (h : 0 ≤ x) : sig x = 1 / (1 + Real.exp (0 - |x|)) := by
  unfold sig; rw [abs_of_nonneg h, zero_sub, one_div]

theorem sig_of_neg {x : ℝ} (h : ¬ 0 ≤ x) : sig x = Real.exp (0 - |x|) * (1 / (1 + Real.exp (0 - |x|))) := by
  have hx : |x| = -x := abs_of_neg (not_le.mp h)
  unfold sig
  rw [hx, zero_sub, neg_neg, Real.exp_neg]
  have := Real.exp_pos x
  field_simp
  ring

/-- The kernel's form of the absent-class cost. -/
theorem absent_kernel (x : ℝ) :
    (max x 0 + Real.log (1 + Real.exp (0 - |x|)))
        * (if 0 ≤ x then 1 / (1 + Real.exp (0 - |x|)) * (1 / (1 + Real.exp (0 - |x|)))
            else Real.exp (0 - |x|) * Real.exp (0 - |x|) * (1 / (1 + Real.exp (0 - |x|)) * (1 / (1 + Real.exp (0 - |x|)))))
      = absent x := by
  unfold absent softplus
  rw [← zero_sub |x|]
  by_cases h : 0 ≤ x
  · rw [if_pos h, sig_of_nonneg h]; ring
  · rw [if_neg h, sig_of_neg h]; ring

theorem one_sub_sig_of_nonneg {x : ℝ} (h : 0 ≤ x) : 1 - sig x = Real.exp (0 - |x|) * (1 / (1 + Real.exp (0 - |x|))) := by
  rw [sig_of_nonneg h]
  have := one_add_exp_pos (0 - |x|)
  field_simp
  ring

theorem one_sub_sig_of_neg {x : ℝ} (h : ¬ 0 ≤ x) : 1 - sig x = 1 / (1 + Real.exp (0 - |x|)) := by
  rw [sig_of_neg h]
  have := one_add_exp_pos (0 - |x|)
  field_simp
  ring

/-- The kernel's form of the present-class cost. -/
theorem present_kernel (x : ℝ) :
    (max x 0 + Real.log (1 + Real.exp (0 - |x|)) - x)
        * (if 0 ≤ x then Real.exp (0 - |x|) * Real.exp (0 - |x|) * (1 / (1 + Real.exp (0 - |x|)) * (1 / (1 + Real.exp (0 - |x|))))
            else 1 / (1 + Real.exp (0 - |x|)) * (1 / (1 + Real.exp (0 - |x|))))
      = present x := by
  unfold present softplus
  rw [← zero_sub |x|]
  by_cases h : 0 ≤ x
  · rw [if_pos h, one_sub_sig_of_nonneg h]; ring
  · rw [if_neg h, one_sub_sig_of_neg h]; ring

end Cert.Loss

end
-- ==== Proof.Math.TileCls.lean ====
/- The classification loss of one tile of the kernel is the sum of its anchors' losses over the classes. -/
module

public import proofs.«01_k».proof.Proof.Math.Tile
public import proofs.«01_k».proof.Proof.Math.Focal

@[expose] public section

set_option maxRecDepth 16384

noncomputable section

namespace Cert.KernelIdeal.Tile

open Cert.KernelIdeal Cert.KernelIdeal.Gen Cert.KernelIdeal.Body Cert.Loss
open Idealize.ShloMosaic

theorem real_one_add_exp (y : ℝ) : ((1 : EReal) + ((Real.exp y : ℝ) : EReal)) = ((1 + Real.exp y : ℝ) : EReal) := by
  rw [EReal.coe_add, EReal.coe_one]

theorem real_inv (y : ℝ) : Ideal.div 1 (((1 + Real.exp y : ℝ)) : EReal) = ((1 / (1 + Real.exp y) : ℝ) : EReal) := by
  rw [Ideal.div_coe (ne_of_gt (one_add_exp_pos y)), one_mul]

theorem real_log (y : ℝ) : Ideal.log ((1 + Real.exp y : ℝ) : EReal) = ((Real.log (1 + Real.exp y) : ℝ) : EReal) := by
  rw [Ideal.log_coe, if_neg (not_le.mpr (one_add_exp_pos y))]

theorem real_max (x : ℝ) : max (x : EReal) 0 = ((max x 0 : ℝ) : EReal) := by
  rw [EReal.coe_strictMono.monotone.map_max]; rfl

theorem absent_apply (w : Vec Ideal S1x10000x80 .f32) (a : Fin 10000) (c : Fin 80) (x : ℝ) (h : w (ix3 0 a c) = (x : EReal)) :
    k0_pay41 w (ix2 a c) = (absent x : EReal) := by
  pointwise [k0_pay41, k0_pay40, k0_pay39, k0_pay38, k0_pay37, k0_pay36, k0_pay35]
  rw [h, coe_abs, ← EReal.coe_zero, ← EReal.coe_sub, Ideal.exp_coe, real_one_add_exp, real_inv, real_log, EReal.coe_zero, real_max, ← absent_kernel]
  simp only [← EReal.coe_mul, ← EReal.coe_add, EReal.coe_nonneg]
  split_ifs <;> rw [← EReal.coe_mul]

theorem present_apply (w : Vec Ideal S1x10000x80 .f32) (a : Fin 10000) (c : Fin 80) (x : ℝ) (h : w (ix3 0 a c) = (x : EReal)) :
    k0_pay42 w (ix2 a c) = (present x : EReal) := by
  pointwise [k0_pay42, k0_pay40, k0_pay39, k0_pay38, k0_pay37, k0_pay36, k0_pay35]
  rw [h, coe_abs, ← EReal.coe_zero, ← EReal.coe_sub, Ideal.exp_coe, real_one_add_exp, real_inv, real_log, EReal.coe_zero, real_max, ← present_kernel]
  simp only [← EReal.coe_mul, ← EReal.coe_add, ← EReal.coe_sub, EReal.coe_nonneg]
  split_ifs <;> rw [← EReal.coe_mul]

/-- A label, as a number, is one more than a class's number exactly when it is the class's label. -/
theorem label_eq (l : BitVec 32) (c : Fin 80) :
    (((l.toInt : ℝ) : EReal) = FloatOps.sitofp (F := Ideal) .f32 (BitVec.ofNat 32 c.val) + 1) ↔ IsClass l c := by
  have h1 : (FloatOps.sitofp (F := Ideal) .f32 (BitVec.ofNat 32 c.val) : EReal) = (((c.val : ℤ) : ℝ) : EReal) := by
    show (((BitVec.ofNat 32 c.val).toInt : ℝ) : EReal) = _
    rw [toInt_small (by omega)]
  rw [h1, ← EReal.coe_one, ← EReal.coe_add, EReal.coe_eq_coe_iff]
  constructor
  · intro h
    have h' : l.toInt = (c.val : ℤ) + 1 := by exact_mod_cast h
    refine BitVec.eq_of_toInt_eq ?_
    rw [h', toInt_small (by omega)]; push_cast; ring
  · intro h
    rw [h, toInt_small (by omega)]; push_cast; ring

theorem cls_apply (oh : FVec Ideal S32x10000 .f32) (us : FVec Ideal S1x10000 .f32) (w : Vec Ideal S1x10000x80 .f32)
    (x4 : Vec Ideal S1x32x1 .f32)
    (u : Fin 10000 → ℝ) (q : Fin 32 → Fin 10000 → ℝ) (l : Fin 32 → BitVec 32) (A B : Fin 10000 → Fin 80 → ℝ)
    (hu : ∀ a, us (ix2 0 a) = (u a : EReal)) (hq : ∀ i a, oh (ix2 i a) = (q i a : EReal))
    (hl : ∀ i, x4 (ix3 0 i 0) = (((l i).toInt : ℝ) : EReal))
    (hA : ∀ a c, k0_pay41 w (ix2 a c) = (A a c : EReal)) (hB : ∀ a c, k0_pay42 w (ix2 a c) = (B a c : EReal)) :
    k0_pay44 oh (k0_pay41 w) (k0_pay42 w) (k0_pay43 us w) x4
      = ((1 / 4 * (∑ c, ∑ a, u a * A a c
          - ∑ i, ∑ c, (∑ a, q i a * A a c) * (if IsClass (l i) c then 1 else 0))
        + 3 / 4 * ∑ i, ∑ c, (∑ a, q i a * B a c) * (if IsClass (l i) c then 1 else 0) : ℝ) : EReal) := by
  generalize hP : k0_pay41 w = P at hA
  generalize hQ : k0_pay42 w = Q at hB
  pointwise [k0_pay44, k0_pay43, hP]
  simp only [Finset.univ_unique, Finset.sum_singleton, lit_quarter, lit_three_quarters, hu, hq, hA, hB, hl, flag_number, label_eq,
    ← EReal.coe_mul, ← coe_sum, ← EReal.coe_sub, ← EReal.coe_add]

/-- The tile's classification loss, its class scores being real and its labels whole numbers. -/
theorem tileCls_apply (x1 : Vec Ideal S1x1x4x10000 .f32) (x2 : Vec Ideal S1x32x4 .f32) (x4 : Vec Ideal S1x32x1 .f32)
    (w : Vec Ideal S1x10000x80 .f32) (l : Fin 32 → BitVec 32) (X : Fin 10000 → Fin 80 → ℝ)
    (hl : ∀ i, x4 (ix3 0 i 0) = (((l i).toInt : ℝ) : EReal)) (hw : ∀ a c, w (ix3 0 a c) = (X a c : EReal)) :
    tileCls x1 x2 x4 w = ((∑ a, ∑ c, classLoss (laps x1 x2 a) l (X a c) c : ℝ) : EReal) := by
  classical
  refine (cls_apply _ _ w x4 _ _ l (fun a c => absent (X a c)) (fun a c => present (X a c)) (used_apply x1 x2)
    (fun i a => pick_apply x1 x2 i a) hl (fun a c => absent_apply w a c _ (hw a c)) (fun a c => present_apply w a c _ (hw a c))).trans ?_
  refine congrArg _ ?_
  refine (Eq.trans ?_ (focal_sum (fun a => usedN (laps x1 x2 a)) (fun a => Hit (laps x1 x2 a)) (fun a => first (laps x1 x2 a))
    (fun i c => IsClass (l i) c) (fun a c => absent (X a c)) (fun a c => present (X a c)) (fun a h => hit_used h))).trans ?_
  · congr!
  · unfold classLoss
    congr!

end Cert.KernelIdeal.Tile
end
-- ==== Proof.Math.Totals.lean ====
/- The two losses of an image, and of the batch, from its anchors, its predictions, its boxes and its labels. -/
module

public import proofs.«01_k».proof.Proof.Math.Consts

@[expose] public section

noncomputable section

namespace Cert.Loss

open Idealize.ShloMosaic

variable {N : ℕ}

/-- The overlaps of anchor `a` with the boxes. -/
def lapsOf (B : Fin 32 → Four) (a : Four) : Fin 32 → EReal := fun i => overlap a (B i)

/-- How many of the anchors are hits. -/
def hitTotal (A : Fin N → Four) (B : Fin 32 → Four) : EReal := ∑ n, (hitN (lapsOf B (A n)) : EReal)
/-- The anchors' box losses summed. -/
def boxTotal (P A : Fin N → Four) (B : Fin 32 → Four) : EReal := ∑ n, boxLoss (P n) (A n) B
/-- The anchors' class losses summed. -/
def classTotal (A : Fin N → Four) (B : Fin 32 → Four) (l : Fin 32 → BitVec 32) (X : Fin N → Fin 80 → ℝ) : EReal :=
  ((∑ n, ∑ c, classLoss (lapsOf B (A n)) l (X n c) c : ℝ) : EReal)

/-- An image's class loss, from its number of hits and its summed class losses. -/
def imageClass (h s : EReal) : EReal := Ideal.div s (max h 1)
open Classical in
/-- An image's box loss, from its number of hits and its summed box losses. -/
def imageBox (h s : EReal) : EReal := if 0 < h then Ideal.div s (max (h * 4) 1) else 0

/-! ## Five tiles make an image -/

/-- Anchor `a` of tile `j`. -/
def place (j : Fin 5) (a : Fin 10000) : Fin 50000 := ⟨10000 * j.val + a.val, by have := j.isLt; have := a.isLt; omega⟩

theorem sum_place {M : Type} [AddCommMonoid M] (f : Fin 50000 → M) : ∑ j, ∑ a, f (place j a) = ∑ n, f n := by
  rw [← Fintype.sum_prod_type']
  refine Fintype.sum_equiv (finProdFinEquiv (m := 5) (n := 10000)) _ _ fun x => congrArg f (Fin.ext ?_)
  show 10000 * x.1.val + x.2.val = x.2.val + 10000 * x.1.val
  exact Nat.add_comm _ _

theorem hitTotal_place (A : Fin 50000 → Four) (B : Fin 32 → Four) :
    ∑ j, hitTotal (fun a => A (place j a)) B = hitTotal A B :=
  sum_place fun n => (hitN (lapsOf B (A n)) : EReal)

theorem boxTotal_place (P A : Fin 50000 → Four) (B : Fin 32 → Four) :
    ∑ j, boxTotal (fun a => P (place j a)) (fun a => A (place j a)) B = boxTotal P A B :=
  sum_place fun n => boxLoss (P n) (A n) B

theorem classTotal_place (A : Fin 50000 → Four) (B : Fin 32 → Four) (l : Fin 32 → BitVec 32) (X : Fin 50000 → Fin 80 → ℝ) :
    ∑ j, classTotal (fun a => A (place j a)) B l (fun a => X (place j a)) = classTotal A B l X := by
  unfold classTotal
  rw [← coe_sum]
  exact congrArg _ (sum_place fun n => ∑ c, classLoss (lapsOf B (A n)) l (X n c) c)

/-! ## Four images make a batch -/

/-- The average over the four images, taken image by image. -/
theorem average_four (a b c d : EReal) :
    Ideal.div a 4 + Ideal.div b 4 + Ideal.div c 4 + Ideal.div d 4 = Ideal.div (a + b + c + d) 4 := by
  have h : ∀ x : EReal, Ideal.div x 4 = x * (((1 / 4 : ℝ)) : EReal) := fun x => by
    rw [show (4 : EReal) = ((4 : ℝ) : EReal) from rfl]
    exact Ideal.div_coe (by norm_num) x
  have hp : (0 : EReal) ≤ ((1 / 4 : ℝ) : EReal) := EReal.coe_nonneg.mpr (by norm_num)
  have ht : ((1 / 4 : ℝ) : EReal) ≠ ⊤ := EReal.coe_ne_top _
  simp only [h]
  rw [EReal.right_distrib_of_nonneg_of_ne_top hp ht, EReal.right_distrib_of_nonneg_of_ne_top hp ht,
    EReal.right_distrib_of_nonneg_of_ne_top hp ht]

end Cert.Loss

end
-- ==== Proof.Body.Value.lean ====
/- What the kernel's blocks hold of the arguments, and what its output array ends with: the accumulator folded over an
   image's five tiles, the output over the four images. -/
module

public import proofs.«01_k».proof.Proof.Body.Frame
public import proofs.«01_k».proof.Proof.Math.TileBox
public import proofs.«01_k».proof.Proof.Math.TileCls
public import proofs.«01_k».proof.Proof.Math.Totals
public import Idealize.ShloMosaic.Lib.Pipeline.ValueKit.Geometry
public import Idealize.ShloMosaic.Lib.StableHlo.ReadAt

@[expose] public section

set_option maxRecDepth 16384

noncomputable section

namespace Cert.KernelIdeal.Body

open Cert.KernelIdeal Cert.KernelIdeal.Gen Cert.KernelIdeal.Tile Cert.Loss
open Idealize.ShloMosaic Idealize.ShloMosaic.TcCoe
open Idealize.ShloMosaic.Pipeline (Dat Cfg Window)

variable (m : (ℓ : Loc nD τ sig) → Buf (Elt Ideal) ℓ) (c : Dev nD)

/-- The whole output array ends at what the last point left. -/
theorem final : (dats m 0 c).arrAt 5 cfg0.N = (outsAt0 m c 19 (by decide)).1 := by
  refine (dats m 0 c).arrAt_eq_of_after_last 5 (⟨19, by decide⟩ : Fin cfg0.N) (by decide +kernel) _ fun j => ?_
  rw [after0_5]
  rfl

/-! ## The blocks -/

/-- The point of image `b` and tile `j`. -/
def point (b : Fin 4) (j : Fin 5) : Fin cfg0.N := ⟨5 * b.val + j.val, by
  have : cfg0.N = 20 := rfl
  have := b.isLt; have := j.isLt; omega⟩

theorem idx0 : ∀ b j, win0_0.index (point b j) = ![b.val, j.val, 0, 0] := by decide +kernel
theorem idx1 : ∀ b j, win0_1.index (point b j) = ![b.val, j.val, 0, 0] := by decide +kernel
theorem idx2 : ∀ b j, win0_2.index (point b j) = ![b.val, 0, 0] := by decide +kernel
theorem idx3 : ∀ b j, win0_3.index (point b j) = ![b.val, 0, 0] := by decide +kernel
theorem idx4 : ∀ b j, win0_4.index (point b j) = ![b.val, 0, 0] := by decide +kernel
theorem bk20 : ∀ b j, (Ring.bk 20 (point b j).val).val = 5 * b.val + j.val := by decide +kernel

theorem place_eq (j : Fin 5) (a : Fin 10000) (h : j.val * 10000 + a.val < 50000) :
    (⟨j.val * 10000 + a.val, h⟩ : Fin 50000) = place j a := Fin.ext (by show j.val * 10000 + a.val = 10000 * j.val + a.val; omega)

theorem preds_arr (b : Fin 4) (j : Fin 5) (k : Fin 4) (a : Fin 10000) :
    (V m c main_v1 : S4x5x4x10000.Idx → EReal) (ix4 b j k a)
      = (m ((c : Thread nD τ).loc main_arg1) : S4x50000x4.Idx → EReal) (ix3 b (place j a) k) := by
  unfold V
  after_reads_at
  rw [place_eq]

theorem anchors_arr (b : Fin 4) (j : Fin 5) (k : Fin 4) (a : Fin 10000) :
    (V m c main_v3 : S4x5x4x10000.Idx → EReal) (ix4 b j k a)
      = (m ((c : Thread nD τ).loc main_arg2) : S4x50000x4.Idx → EReal) (ix3 b (place j a) k) := by
  unfold V
  after_reads_at
  rw [place_eq]

theorem columns_arr (b : Fin 4) (k : Fin 4) (i : Fin 32) :
    (V m c main_v4 : S4x4x32.Idx → EReal) (ix3 b k i)
      = (m ((c : Thread nD τ).loc main_arg3) : S4x32x4.Idx → EReal) (ix3 b i k) := by
  unfold V
  after_reads_at

theorem labels_arr (b : Fin 4) (i : Fin 32) :
    (V m c main_v6 : S4x32x1.Idx → EReal) (ix3 b i 0)
      = ((((m ((c : Thread nD τ).loc main_arg4) : S4x32.Idx → BitVec 32) (ix2 b i)).toInt : ℝ) : EReal) := by
  unfold V
  after_reads_at
  rfl

theorem preds_block (b : Fin 4) (j : Fin 5) (a : Fin 10000) :
    anchor (iblk m c 0 (point b j)) a = fun k => (m ((c : Thread nD τ).loc main_arg1) : S4x50000x4.Idx → EReal) (ix3 b (place j a) k) := by
  funext k
  rw [← preds_arr m c]
  show (iblk m c 0 (point b j) : S1x1x4x10000.Idx → EReal) (ix4 0 0 k a) = (V m c main_v1 : S4x5x4x10000.Idx → EReal) (ix4 b j k a)
  blk_ext [iblk, idx0]

theorem anchors_block (b : Fin 4) (j : Fin 5) (a : Fin 10000) :
    anchor (iblk m c 1 (point b j)) a = fun k => (m ((c : Thread nD τ).loc main_arg2) : S4x50000x4.Idx → EReal) (ix3 b (place j a) k) := by
  funext k
  rw [← anchors_arr m c]
  show (iblk m c 1 (point b j) : S1x1x4x10000.Idx → EReal) (ix4 0 0 k a) = (V m c main_v3 : S4x5x4x10000.Idx → EReal) (ix4 b j k a)
  blk_ext [iblk, idx1]

theorem boxes_block (b : Fin 4) (j : Fin 5) :
    box (iblk m c 2 (point b j)) = fun i k => (m ((c : Thread nD τ).loc main_arg3) : S4x32x4.Idx → EReal) (ix3 b i k) := by
  funext i k
  rw [← V_main_arg3 m c]
  show (iblk m c 2 (point b j) : S1x32x4.Idx → EReal) (ix3 0 i k) = (V m c main_arg3 : S4x32x4.Idx → EReal) (ix3 b i k)
  blk_ext [iblk, idx2]

theorem columns_block (b : Fin 4) (j : Fin 5) (i : Fin 32) (k : Fin 4) :
    (iblk m c 3 (point b j) : S1x4x32.Idx → EReal) (ix3 0 k i) = box (iblk m c 2 (point b j)) i k := by
  rw [boxes_block]
  refine Eq.trans ?_ (columns_arr m c b k i)
  show (iblk m c 3 (point b j) : S1x4x32.Idx → EReal) (ix3 0 k i) = (V m c main_v4 : S4x4x32.Idx → EReal) (ix3 b k i)
  blk_ext [iblk, idx3]

theorem labels_block (b : Fin 4) (j : Fin 5) (i : Fin 32) :
    (iblk m c 4 (point b j) : S1x32x1.Idx → EReal) (ix3 0 i 0)
      = ((((m ((c : Thread nD τ).loc main_arg4) : S4x32.Idx → BitVec 32) (ix2 b i)).toInt : ℝ) : EReal) := by
  rw [← labels_arr m c]
  show (iblk m c 4 (point b j) : S1x32x1.Idx → EReal) (ix3 0 i 0) = (V m c main_v6 : S4x32x1.Idx → EReal) (ix3 b i 0)
  blk_ext [iblk, idx4]

theorem score_block (b : Fin 4) (j : Fin 5) (a : Fin 10000) (k : Fin 80) :
    scores c (point b j) (V m c main_arg0) (ix3 0 a k)
      = (m ((c : Thread nD τ).loc main_arg0) : S4x50000x80.Idx → EReal) (ix3 b (place j a) k) := by
  rw [V_main_arg0]
  unfold scores
  show (m ((c : Thread nD τ).loc main_arg0) : S4x50000x80.Idx → EReal) _ = _
  refine congrArg _ (funext fun d => Fin.ext ?_)
  have hb := b.isLt; have hj := j.isLt
  match d with
  | ⟨0, _⟩ =>
    refine (ValueKit.rect_emb_unit_val _ _ _ _ _).trans ?_
    show (Ring.bk 20 (point b j).val).val / 5 + 0 = b.val
    rw [bk20]; omega
  | ⟨1, _⟩ =>
    refine (ValueKit.rect_emb_unit_val _ _ _ _ _).trans ?_
    show 10000 * ((Ring.bk 20 (point b j).val).val % 5) + a.val = 10000 * j.val + a.val
    rw [bk20]; omega
  | ⟨2, _⟩ =>
    refine (ValueKit.rect_emb_unit_val _ _ _ _ _).trans ?_
    show 0 + k.val = k.val
    omega

/-! ## The accumulator and the output, cell by cell -/

theorem acc_hit (fg : Vec Ideal S1x10000 .f32) (b k : EReal) (a : Vec Ideal S3 .f32) :
    accStep (F := Ideal) fg b k a (c3 0) = a (c3 0) + ∑ n : Fin 10000, fg (ix2 0 n) := by
  show k0_pay45 (F := Ideal) fg (a (c3 0)) = _
  pointwise [k0_pay45]
  simp only [Finset.univ_unique, Finset.sum_singleton]

theorem acc_box (fg : Vec Ideal S1x10000 .f32) (b k : EReal) (a : Vec Ideal S3 .f32) :
    accStep (F := Ideal) fg b k a (c3 1) = a (c3 1) + b := by
  rfl

theorem acc_class (fg : Vec Ideal S1x10000 .f32) (b k : EReal) (a : Vec Ideal S3 .f32) :
    accStep (F := Ideal) fg b k a (c3 2) = a (c3 2) + k := by
  rfl

theorem out_class (a : Vec Ideal S3 .f32) (o : Vec Ideal S2 .f32) :
    outStep (F := Ideal) a o (c2 0) = o (c2 0) + Ideal.div (imageClass (a (c3 0)) (a (c3 2))) 4 := by
  show k0_pay2 (F := Ideal) (a (c3 0)) (a (c3 2)) (o (c2 0)) = _
  pointwise [k0_pay2]
  rw [lit_four]
  rfl

theorem out_box (a : Vec Ideal S3 .f32) (o : Vec Ideal S2 .f32) :
    outStep (F := Ideal) a o (c2 1) = o (c2 1) + Ideal.div (imageBox (a (c3 0)) (a (c3 1))) 4 := by
  show k0_pay3 (F := Ideal) (a (c3 0)) (a (c3 1)) (o (c2 1)) = _
  pointwise [k0_pay3]
  rw [lit_four]
  unfold imageBox
  congr

/-! ## Image by image -/

/-- The predictions, the anchors and the boxes of image `b`, its labels. -/
def preds (b : Fin 4) : Fin 50000 → Four := fun n k => (m ((c : Thread nD τ).loc main_arg1) : S4x50000x4.Idx → EReal) (ix3 b n k)
def anchors (b : Fin 4) : Fin 50000 → Four := fun n k => (m ((c : Thread nD τ).loc main_arg2) : S4x50000x4.Idx → EReal) (ix3 b n k)
def boxes (b : Fin 4) : Fin 32 → Four := fun i k => (m ((c : Thread nD τ).loc main_arg3) : S4x32x4.Idx → EReal) (ix3 b i k)
def labels (b : Fin 4) : Fin 32 → BitVec 32 := fun i => (m ((c : Thread nD τ).loc main_arg4) : S4x32.Idx → BitVec 32) (ix2 b i)

variable (X : Fin 4 → Fin 50000 → Fin 80 → ℝ)

/-- The class scores are the real numbers `X`. -/
def Scores : Prop := ∀ b n k, (m ((c : Thread nD τ).loc main_arg0) : S4x50000x80.Idx → EReal) (ix3 b n k) = (X b n k : EReal)

theorem laps_block (b : Fin 4) (j : Fin 5) (a : Fin 10000) :
    laps (iblk m c 1 (point b j)) (iblk m c 2 (point b j)) a = lapsOf (boxes m c b) (anchors m c b (place j a)) := by
  unfold laps lapsOf
  rw [anchors_block, boxes_block]
  rfl

theorem tile_hits (b : Fin 4) (j : Fin 5) (a : Vec Ideal S3 .f32) :
    tileAcc m c (point b j) a (c3 0) = a (c3 0) + hitTotal (fun n => anchors m c b (place j n)) (boxes m c b) := by
  unfold tileAcc
  rw [acc_hit]
  unfold hitTotal
  refine congrArg (a (c3 0) + ·) (Finset.sum_congr rfl fun n _ => ?_)
  rw [fg_apply, laps_block]

theorem tile_boxes (b : Fin 4) (j : Fin 5) (a : Vec Ideal S3 .f32) :
    tileAcc m c (point b j) a (c3 1)
      = a (c3 1) + boxTotal (fun n => preds m c b (place j n)) (fun n => anchors m c b (place j n)) (boxes m c b) := by
  unfold tileAcc
  rw [acc_box, tileBox_apply _ _ _ _ (columns_block m c b j)]
  unfold boxTotal
  refine congrArg (a (c3 1) + ·) (Finset.sum_congr rfl fun n _ => ?_)
  rw [preds_block, anchors_block, boxes_block]
  rfl

theorem tile_classes (hX : Scores m c X) (b : Fin 4) (j : Fin 5) (a : Vec Ideal S3 .f32) :
    tileAcc m c (point b j) a (c3 2)
      = a (c3 2) + classTotal (fun n => anchors m c b (place j n)) (boxes m c b) (labels m c b) (fun n => X b (place j n)) := by
  unfold tileAcc
  rw [acc_class, tileCls_apply _ _ _ _ (labels m c b) (fun n => X b (place j n)) (labels_block m c b j)
    (fun n k => (score_block m c b j n k).trans (hX b (place j n) k))]
  unfold classTotal
  refine congrArg (fun r : ℝ => a (c3 2) + (r : EReal)) (Finset.sum_congr rfl fun n _ => Finset.sum_congr rfl fun k _ => ?_)
  rw [laps_block]

theorem outs_eq {n n' : ℕ} (h : n = n') (hn : n < cfg0.N) (hn' : n' < cfg0.N) :
    (outsAt0 m c n hn).1 = (outsAt0 m c n' hn').1 ∧ (outsAt0 m c n hn).2 = (outsAt0 m c n' hn').2 := by
  subst h; exact ⟨rfl, rfl⟩

theorem zero0_eq : (zero0 (F := Ideal) : EReal) = 0 := by
  show Ideal.ofBits .f32 0#32 = 0
  exact Ideal.ofBits_zero_f32

/-- The accumulator after an image's five tiles. -/
theorem acc_image (b : Fin 4) (k : Fin 3) (T : Fin 5 → EReal)
    (hT : ∀ j a, tileAcc m c (point b j) a (c3 k) = a (c3 k) + T j) :
    (outsAt0 m c (point b 4).val (point b 4).isLt).2 (c3 k) = ∑ j, T j := by
  have hb := b.isLt
  have keep : ∀ j j' : Fin 5, j.val = j'.val + 1 → (outsAt0 m c (point b j).val (point b j).isLt).2 (c3 k)
      = (outsAt0 m c (point b j').val (point b j').isLt).2 (c3 k) + T j := by
    intro j j' h
    have hj := j.isLt
    rw [acc_keep m c (point b j) (by show (5 * b.val + j.val) % 5 ≠ 0; omega), hT j]
    exact congrArg (fun x : Vec Ideal S3 .f32 => x (c3 k) + T j) (outs_eq m c
      (by show 5 * b.val + j.val - 1 = 5 * b.val + j'.val; omega) _ _).2
  rw [keep 4 3 rfl, keep 3 2 rfl, keep 2 1 rfl, keep 1 0 rfl,
    acc_clear m c (point b 0) (by show (5 * b.val + 0) % 5 = 0; omega), hT 0, Fin.sum_univ_five]
  show (zero0 (F := Ideal) : EReal) + T 0 + T 1 + T 2 + T 3 + T 4 = _
  rw [zero0_eq, zero_add]

theorem acc_hits (b : Fin 4) : (outsAt0 m c (point b 4).val (point b 4).isLt).2 (c3 0) = hitTotal (anchors m c b) (boxes m c b) :=
  (acc_image m c b 0 _ (tile_hits m c b)).trans (hitTotal_place _ _)
theorem acc_boxes (b : Fin 4) :
    (outsAt0 m c (point b 4).val (point b 4).isLt).2 (c3 1) = boxTotal (preds m c b) (anchors m c b) (boxes m c b) :=
  (acc_image m c b 1 _ (tile_boxes m c b)).trans (boxTotal_place _ _ _)
theorem acc_classes (hX : Scores m c X) (b : Fin 4) :
    (outsAt0 m c (point b 4).val (point b 4).isLt).2 (c3 2) = classTotal (anchors m c b) (boxes m c b) (labels m c b) (X b) :=
  (acc_image m c b 2 _ (tile_classes m c X hX b)).trans (classTotal_place _ _ _ _)

/-- The output after an image takes the image's losses. -/
theorem out_image (b : Fin 4) :
    (outsAt0 m c (point b 4).val (point b 4).isLt).1
      = outStep (F := Ideal) (outsAt0 m c (point b 4).val (point b 4).isLt).2 (outsAt0 m c (point b 0).val (point b 0).isLt).1 := by
  have hb := b.isLt
  have keep : ∀ j j' : Fin 5, j.val = j'.val + 1 → j.val ≠ 4 → (outsAt0 m c (point b j).val (point b j).isLt).1
      = (outsAt0 m c (point b j').val (point b j').isLt).1 := by
    intro j j' h h4
    have hj := j.isLt
    rw [out_keep m c (point b j) (by show 5 * b.val + j.val ≠ 0; omega) (by show (5 * b.val + j.val) % 5 ≠ 4; omega)]
    exact (outs_eq m c (by show 5 * b.val + j.val - 1 = 5 * b.val + j'.val; omega) _ _).1
  rw [out_last m c (point b 4) (by show (5 * b.val + 4) % 5 = 4; omega),
    acc_keep m c (point b 4) (by show (5 * b.val + 4) % 5 ≠ 0; omega), ← keep 1 0 rfl (by decide), ← keep 2 1 rfl (by decide),
    ← keep 3 2 rfl (by decide)]
  exact congrArg _ (outs_eq m c (by show 5 * b.val + 4 - 1 = 5 * b.val + 3; omega) _ _).1

theorem out_next (b b' : Fin 4) (h : b.val = b'.val + 1) :
    (outsAt0 m c (point b 0).val (point b 0).isLt).1 = (outsAt0 m c (point b' 4).val (point b' 4).isLt).1 := by
  have hb := b.isLt
  rw [out_keep m c (point b 0) (by show 5 * b.val + 0 ≠ 0; omega) (by show (5 * b.val + 0) % 5 ≠ 4; omega)]
  exact (outs_eq m c (by show 5 * b.val + 0 - 1 = 5 * b'.val + 4; omega) _ _).1

theorem out_batch (k : Fin 2) (T : Fin 4 → EReal)
    (hT : ∀ (b : Fin 4) (o : Vec Ideal S2 .f32),
      outStep (F := Ideal) (outsAt0 m c (point b 4).val (point b 4).isLt).2 o (c2 k) = o (c2 k) + Ideal.div (T b) 4) :
    (outsAt0 m c 19 (by decide)).1 (c2 k) = Ideal.div (∑ b, T b) 4 := by
  have h : (outsAt0 m c 19 (by decide)).1 = (outsAt0 m c (point 3 4).val (point 3 4).isLt).1 := rfl
  rw [h, out_image, hT, out_next m c 3 2 rfl, out_image, hT, out_next m c 2 1 rfl, out_image, hT, out_next m c 1 0 rfl,
    out_image, hT, out_first m c (point 0 0) rfl, Fin.sum_univ_four, ← average_four, zero0_eq, zero_add]

/-- The losses the kernel leaves. -/
theorem result_class (hX : Scores m c X) : ((dats m 0 c).arrAt 5 cfg0.N : S2.Idx → EReal) (c2 0)
    = Ideal.div (∑ b, imageClass (hitTotal (anchors m c b) (boxes m c b))
        (classTotal (anchors m c b) (boxes m c b) (labels m c b) (X b))) 4 := by
  rw [final]
  exact out_batch m c 0 _ fun b o => by rw [out_class, acc_hits, acc_classes m c X hX]

theorem result_box : ((dats m 0 c).arrAt 5 cfg0.N : S2.Idx → EReal) (c2 1)
    = Ideal.div (∑ b, imageBox (hitTotal (anchors m c b) (boxes m c b))
        (boxTotal (preds m c b) (anchors m c b) (boxes m c b))) 4 := by
  rw [final]
  exact out_batch m c 1 _ fun b o => by rw [out_box, acc_hits, acc_boxes]

end Cert.KernelIdeal.Body

end
-- ==== Proof.Math.Wide.lean ====
/- The area an anchor and a box cover together is never small: the anchor has its own, and the shared area is at most the
   box's. -/
module

public import proofs.«01_k».proof.Proof.Math.Consts

@[expose] public section

noncomputable section

namespace Cert.Loss

open Idealize.ShloMosaic

/-- Four numbers, the last two of them at least `c`. -/
def Sized (c : ℝ) (a : Four) : Prop := ∃ r : Fin 4 → ℝ, (∀ k, a k = (r k : EReal)) ∧ c ≤ r 2 ∧ c ≤ r 3

theorem covered_real (a t : Fin 4 → ℝ) :
    covered (fun k => (a k : EReal)) (fun k => (t k : EReal))
      = (((a 0 + a 2 * (1 / 2) - (a 0 - a 2 * (1 / 2))) * (a 1 + a 3 * (1 / 2) - (a 1 - a 3 * (1 / 2)))
          + (t 0 + t 2 * (1 / 2) - (t 0 - t 2 * (1 / 2))) * (t 1 + t 3 * (1 / 2) - (t 1 - t 3 * (1 / 2)))
          - max 0 (min (a 0 + a 2 * (1 / 2)) (t 0 + t 2 * (1 / 2)) - max (a 0 - a 2 * (1 / 2)) (t 0 - t 2 * (1 / 2)))
            * max 0 (min (a 1 + a 3 * (1 / 2)) (t 1 + t 3 * (1 / 2)) - max (a 1 - a 3 * (1 / 2)) (t 1 - t 3 * (1 / 2))) : ℝ) : EReal) := by
  have hmax : ∀ x y : ℝ, max (x : EReal) (y : EReal) = ((max x y : ℝ) : EReal) := fun x y => (EReal.coe_strictMono.monotone.map_max).symm
  have hmin : ∀ x y : ℝ, min (x : EReal) (y : EReal) = ((min x y : ℝ) : EReal) := fun x y => (EReal.coe_strictMono.monotone.map_min).symm
  unfold covered shared left right top bottom half
  rw [← EReal.coe_zero]
  simp only [← EReal.coe_mul, ← EReal.coe_add, ← EReal.coe_sub, hmax, hmin]

theorem wide {a t : Four} (ha : Sized (1 / 200) a) (ht : Sized 0 t) : Ideal.ofBits .f32 0x2B8CBCCC#32 ≤ covered a t := by
  obtain ⟨a', ha', ha2, ha3⟩ := ha
  obtain ⟨t', ht', ht2, ht3⟩ := ht
  obtain ⟨s, hs, hs'⟩ := lit_speck
  rw [show a = fun k => (a' k : EReal) from funext ha', show t = fun k => (t' k : EReal) from funext ht', covered_real, hs]
  refine EReal.coe_le_coe_iff.mpr ?_
  have h1 : max 0 (min (a' 0 + a' 2 * (1 / 2)) (t' 0 + t' 2 * (1 / 2)) - max (a' 0 - a' 2 * (1 / 2)) (t' 0 - t' 2 * (1 / 2))) ≤ t' 2 := by
    refine max_le ht2 ?_
    have := min_le_right (a' 0 + a' 2 * (1 / 2)) (t' 0 + t' 2 * (1 / 2))
    have := le_max_right (a' 0 - a' 2 * (1 / 2)) (t' 0 - t' 2 * (1 / 2))
    linarith
  have h2 : max 0 (min (a' 1 + a' 3 * (1 / 2)) (t' 1 + t' 3 * (1 / 2)) - max (a' 1 - a' 3 * (1 / 2)) (t' 1 - t' 3 * (1 / 2))) ≤ t' 3 := by
    refine max_le ht3 ?_
    have := min_le_right (a' 1 + a' 3 * (1 / 2)) (t' 1 + t' 3 * (1 / 2))
    have := le_max_right (a' 1 - a' 3 * (1 / 2)) (t' 1 - t' 3 * (1 / 2))
    linarith
  have h3 := mul_le_mul h1 h2 (le_max_left _ _) ht2
  have h4 : (1 / 200 : ℝ) * (1 / 200) ≤ a' 2 * a' 3 := mul_le_mul ha2 ha3 (by norm_num) (by linarith)
  have e1 : (a' 0 + a' 2 * (1 / 2) - (a' 0 - a' 2 * (1 / 2))) * (a' 1 + a' 3 * (1 / 2) - (a' 1 - a' 3 * (1 / 2))) = a' 2 * a' 3 := by ring
  have e2 : (t' 0 + t' 2 * (1 / 2) - (t' 0 - t' 2 * (1 / 2))) * (t' 1 + t' 3 * (1 / 2) - (t' 1 - t' 3 * (1 / 2))) = t' 2 * t' 3 := by ring
  rw [e1, e2]
  have h5 : (1 / 10 ^ 6 : ℝ) ≤ 1 / 200 * (1 / 200) := by norm_num
  linarith

end Cert.Loss

end
-- ==== Proof.Math.Pick.lean ====
/- Taking the greatest of 32 numbers with its place, and looking up the row at a place. -/
module

public import proofs.«01_k».proof.Proof.Gen.ReferenceIdeal.Read
public import proofs.«01_k».proof.Proof.Math.Consts
public import Idealize.ShloMosaic.Lib.Pointwise

@[expose] public section

set_option maxRecDepth 16384

noncomputable section

namespace Cert.Loss

open Idealize.ShloMosaic Cert.ReferenceIdeal Cert.ReferenceIdeal.Gen

/-! ## The greatest -/

/-- A stable sort, greatest first, of places in increasing order begins with the first greatest. -/
theorem sort_head {n : ℕ} (f : Fin n → EReal) (R : Fin n → Fin n → Bool) (hR : ∀ i j, R i j = true ↔ f j < f i) :
    ∀ (l : List (Fin n)), l.Pairwise (· < ·) → l ≠ [] →
      ∃ i t, stableSort R l = i :: t ∧ i ∈ l ∧ ∀ k ∈ l, f k ≤ f i ∧ (k < i → f k < f i)
  | [], _, h => absurd rfl h
  | a :: l, hp, _ => by
    rw [List.pairwise_cons] at hp
    rcases l with _ | ⟨b, l⟩
    · refine ⟨a, [], rfl, List.mem_singleton.mpr rfl, fun k hk => ?_⟩
      obtain rfl := List.mem_singleton.mp hk
      exact ⟨le_rfl, fun h => absurd h (lt_irrefl _)⟩
    · obtain ⟨i, t, he, hi, hk⟩ := sort_head f R hR (b :: l) hp.2 (List.cons_ne_nil _ _)
      have hs : stableSort R (a :: b :: l) = if R i a then i :: insertBefore R a t else a :: i :: t := by
        show insertBefore R a (stableSort R (b :: l)) = _
        rw [he]; rfl
      by_cases h : f a < f i
      · refine ⟨i, insertBefore R a t, by rw [hs, if_pos ((hR _ _).mpr h)], List.mem_cons_of_mem _ hi, fun k hk' => ?_⟩
        rcases List.mem_cons.mp hk' with rfl | hk'
        · exact ⟨le_of_lt h, fun _ => h⟩
        · exact hk k hk'
      · refine ⟨a, i :: t, by rw [hs, if_neg fun h' => h ((hR _ _).mp h')], List.mem_cons_self, fun k hk' => ?_⟩
        rcases List.mem_cons.mp hk' with rfl | hk'
        · exact ⟨le_rfl, fun h => absurd h (lt_irrefl _)⟩
        · exact ⟨(hk k hk').1.trans (not_lt.mp h), fun h' => absurd (hp.1 k hk') (not_lt.mpr (le_of_lt h'))⟩

theorem sorted_first (f : Fin 32 → EReal) (R : Fin 32 → Fin 32 → Bool) (hR : ∀ i j, R i j = true ↔ f j < f i) :
    sortedFrom R 0 = first f := by
  obtain ⟨i, t, he, -, hk⟩ := sort_head f R hR (List.finRange 32) (List.pairwise_lt_finRange 32) (by decide)
  have h0 : sortedFrom R 0 = i := by
    have h : (sortPositions 32 R)[0]? = some i := by
      unfold sortPositions
      rw [he]; rfl
    unfold sortedFrom
    have h' := List.getElem?_eq_getElem (l := sortPositions 32 R) (i := 0) (by rw [length_sortPositions]; decide)
    rw [h] at h'
    exact (Option.some.inj h').symm
  rw [h0]
  exact (first_eq ⟨fun k => (hk k (List.mem_finRange k)).1, fun k h => (hk k (List.mem_finRange k)).2 h⟩).symm

theorem greater_eq (a b : EReal) : (FloatOps.cmpfTotal (F := Ideal) (φ := .f32) .gt a b == 1#1) = true ↔ b < a := by
  rw [beq_iff_eq]
  show Ideal.cmp .ogt a b = 1#1 ↔ _
  unfold Ideal.cmp
  by_cases h : b < a
  · simp [h]
  · simp [h]

variable (x : S4x50000x32.Idx → EReal) (b : Fin 4) (n : Fin 50000)

theorem along_eq (k : Fin 32) : Shape.Idx.along (s := S4x50000x32) (ix3 b n 0) 2 k = ix3 b n k := by
  funext a
  unfold Shape.Idx.along
  match a with
  | ⟨0, _⟩ => rfl
  | ⟨1, _⟩ => rfl
  | ⟨2, _⟩ => rfl

theorem slot_eq : (fun a => ⟨0 + (ix3 b n (0 : Fin 1) a : ℕ), by
    match a with
    | ⟨0, _⟩ => show 0 + b.val < 4; omega
    | ⟨1, _⟩ => show 0 + n.val < 50000; omega
    | ⟨2, _⟩ => show 0 + 0 < 32; omega⟩ : S4x50000x32.Idx) = ix3 b n 0 := by
  funext a
  match a with
  | ⟨0, _⟩ => exact Fin.ext (Nat.zero_add _)
  | ⟨1, _⟩ => exact Fin.ext (Nat.zero_add _)
  | ⟨2, _⟩ => rfl

theorem top_from (R : Fin 32 → Fin 32 → Bool)
    (hR : ∀ i j, R i j = (FloatOps.cmpfTotal (F := Ideal) (φ := .f32) .gt (x (ix3 b n i)) (x (ix3 b n j)) == 1#1)) :
    sortedFrom R 0 = first fun i => x (ix3 b n i) :=
  sorted_first _ R fun i j => by rw [hR]; exact greater_eq _ _

/-- The place the first of the sorted row comes from, the row through `J`. -/
abbrev from0 (J : S4x50000x32.Idx) : Fin 32 :=
  sortedFrom (fun i j => FloatOps.cmpfTotal (F := Ideal) (φ := .f32) .gt (x (Shape.Idx.along (s := S4x50000x32) J 2 i))
    (x (Shape.Idx.along (s := S4x50000x32) J 2 j)) == 1#1) (J 2)

theorem from0_eq : from0 x (ix3 b n 0) = first fun i => x (ix3 b n i) :=
  top_from x b n _ fun i j => by rw [along_eq, along_eq]

theorem top_value : (Host.topK S4x50000x1 2 (FloatOps.cmpfTotal (F := Ideal) (φ := .f32) .gt) x
      sliceFits_S4x50000x32_S4x50000x1).1 (ix3 b n 0) = peak fun i => x (ix3 b n i) := by
  refine (congrArg (fun J : S4x50000x32.Idx => x (Shape.Idx.along (s := S4x50000x32) J 2 (from0 x J))) (slot_eq b n)).trans ?_
  show x (Shape.Idx.along (s := S4x50000x32) (ix3 b n 0) 2 (from0 x (ix3 b n 0))) = _
  rw [from0_eq, along_eq]
  rfl

theorem top_place : (Host.topK S4x50000x1 2 (FloatOps.cmpfTotal (F := Ideal) (φ := .f32) .gt) x
      sliceFits_S4x50000x32_S4x50000x1).2 (ix3 b n 0) = BitVec.ofNat 32 (first fun i => x (ix3 b n i)).val := by
  refine (congrArg (fun J : S4x50000x32.Idx => BitVec.ofNat 32 ((Shape.Idx.along (s := S4x50000x32) J 2 (from0 x J)) 2).val) (slot_eq b n)).trans ?_
  show BitVec.ofNat 32 ((Shape.Idx.along (s := S4x50000x32) (ix3 b n 0) 2 (from0 x (ix3 b n 0))) 2).val = _
  rw [from0_eq, along_eq]
  rfl

/-! ## Looking up -/

theorem coord3 {A B C : ℕ} (p : Fin A) (q : Fin B) (r : Fin C) :
    (∀ d : Fin 3, d = 0 → (ix3 p q r d : ℕ) = p.val) ∧ (∀ d : Fin 3, d = 1 → (ix3 p q r d : ℕ) = q.val)
      ∧ (∀ d : Fin 3, d = 2 → (ix3 p q r d : ℕ) = r.val) :=
  ⟨fun d h => by subst h; rfl, fun d h => by subst h; rfl, fun d h => by subst h; rfl⟩

theorem coord2 {A B : ℕ} (p : Fin A) (q : Fin B) :
    (∀ d : Fin 2, d = 0 → (ix2 p q d : ℕ) = p.val) ∧ (∀ d : Fin 2, d = 1 → (ix2 p q d : ℕ) = q.val) :=
  ⟨fun d h => by subst h; rfl, fun d h => by subst h; rfl⟩

/-- The two lookups: a matched box, and a matched label. -/
abbrev boxLookup : GatherDims S4x32x4 S4x50000x1 S4x50000x4 := gather_S4x32x4_S4x50000x1_S4x50000x4_2_1_0_0_1_2_114
abbrev labelLookup : GatherDims S4x33 S4x50000x1 S4x50000 := gather_S4x33_S4x50000x1_S4x50000_n_1_0_0_1_2_11

theorem gather_box (x : S4x32x4.Idx → EReal) (idx : S4x50000x1.Idx → BitVec 32) (k : Fin 4) (i : Fin 32)
    (h : idx (ix3 b n 0) = BitVec.ofNat 32 i.val) :
    Host.gather gather_S4x32x4_S4x50000x1_S4x50000x4_2_1_0_0_1_2_114 x idx (ix3 b n k) = x (ix3 b i k) := by
  have hi := i.isLt
  unfold Host.gather
  refine congrArg x (funext fun a => Fin.ext ?_)
  show GatherDims.start boxLookup _ _ _ + GatherDims.batchCoord boxLookup _ _ + GatherDims.offCoord boxLookup _ _ = _
  match a with
  | ⟨0, _⟩ =>
    show GatherDims.start boxLookup _ _ (0 : Fin 3) + GatherDims.batchCoord boxLookup _ (0 : Fin 3) + GatherDims.offCoord boxLookup _ (0 : Fin 3) = b.val
    rw [GatherDims.start_batching _ _ _ _ (by decide +kernel), GatherDims.offCoord_eq_zero _ _ _ (by decide +kernel)]
    unfold GatherDims.batchCoord
    rw [dif_pos (by decide +kernel), Nat.zero_add, Nat.add_zero]
    exact (coord3 b n k).1 _ (by decide +kernel)
  | ⟨1, _⟩ =>
    show GatherDims.start boxLookup _ _ (1 : Fin 3) + GatherDims.batchCoord boxLookup _ (1 : Fin 3) + GatherDims.offCoord boxLookup _ (1 : Fin 3) = i.val
    rw [GatherDims.batchCoord_eq_zero _ _ _ (by decide +kernel), GatherDims.offCoord_eq_zero _ _ _ (by decide +kernel)]
    unfold GatherDims.start
    rw [dif_pos (by decide +kernel)]
    have hs : boxLookup.siIdx (ix3 b n k) ⟨boxLookup.startIndexMap.idxOf (1 : Fin 3), by decide +kernel⟩ = ix3 b n 0 := by
      funext d
      apply Fin.ext
      unfold GatherDims.siIdx
      match d with
      | ⟨0, _⟩ => rw [dif_neg (by exact (by decide : ¬(0 : ℕ) = 2))]; exact (coord3 b n k).1 _ (by decide +kernel +revert)
      | ⟨1, _⟩ => rw [dif_neg (by exact (by decide : ¬(1 : ℕ) = 2))]; exact (coord3 b n k).2.1 _ (by decide +kernel +revert)
      | ⟨2, _⟩ => rw [dif_pos (by exact (rfl : (2 : ℕ) = 2))]; rfl
    refine (congrArg (fun z => min (idx z).toInt.toNat (32 - 1)) hs).trans ?_
    show min (idx (ix3 b n 0)).toInt.toNat 31 = i.val
    rw [h, toInt_small (by omega)]
    omega
  | ⟨2, _⟩ =>
    show GatherDims.start boxLookup _ _ (2 : Fin 3) + GatherDims.batchCoord boxLookup _ (2 : Fin 3) + GatherDims.offCoord boxLookup _ (2 : Fin 3) = k.val
    rw [GatherDims.batchCoord_eq_zero _ _ _ (by decide +kernel)]
    unfold GatherDims.start GatherDims.offCoord
    rw [dif_neg (by decide +kernel), dif_pos (by decide +kernel)]
    exact (Nat.zero_add _).trans ((coord3 b n k).2.2 _ (by decide +kernel))

theorem gather_label (x : S4x33.Idx → BitVec 32) (idx : S4x50000x1.Idx → BitVec 32) (i : Fin 33)
    (h : idx (ix3 b n 0) = BitVec.ofNat 32 i.val) :
    Host.gather gather_S4x33_S4x50000x1_S4x50000_n_1_0_0_1_2_11 x idx (ix2 b n) = x (ix2 b i) := by
  have hi := i.isLt
  unfold Host.gather
  refine congrArg x (funext fun a => Fin.ext ?_)
  show GatherDims.start labelLookup _ _ _ + GatherDims.batchCoord labelLookup _ _ + GatherDims.offCoord labelLookup _ _ = _
  match a with
  | ⟨0, _⟩ =>
    show GatherDims.start labelLookup _ _ (0 : Fin 2) + GatherDims.batchCoord labelLookup _ (0 : Fin 2) + GatherDims.offCoord labelLookup _ (0 : Fin 2) = b.val
    rw [GatherDims.start_batching _ _ _ _ (by decide +kernel), GatherDims.offCoord_eq_zero _ _ _ (by decide +kernel)]
    unfold GatherDims.batchCoord
    rw [dif_pos (by decide +kernel), Nat.zero_add, Nat.add_zero]
    exact (coord2 b n).1 _ (by decide +kernel)
  | ⟨1, _⟩ =>
    show GatherDims.start labelLookup _ _ (1 : Fin 2) + GatherDims.batchCoord labelLookup _ (1 : Fin 2) + GatherDims.offCoord labelLookup _ (1 : Fin 2) = i.val
    rw [GatherDims.batchCoord_eq_zero _ _ _ (by decide +kernel), GatherDims.offCoord_eq_zero _ _ _ (by decide +kernel)]
    unfold GatherDims.start
    rw [dif_pos (by decide +kernel)]
    have hs : labelLookup.siIdx (ix2 b n) ⟨labelLookup.startIndexMap.idxOf (1 : Fin 2), by decide +kernel⟩ = ix3 b n 0 := by
      funext d
      apply Fin.ext
      unfold GatherDims.siIdx
      match d with
      | ⟨0, _⟩ => rw [dif_neg (by exact (by decide : ¬(0 : ℕ) = 2))]; exact (coord2 b n).1 _ (by decide +kernel +revert)
      | ⟨1, _⟩ => rw [dif_neg (by exact (by decide : ¬(1 : ℕ) = 2))]; exact (coord2 b n).2 _ (by decide +kernel +revert)
      | ⟨2, _⟩ => rw [dif_pos (by exact (rfl : (2 : ℕ) = 2))]; rfl
    refine (congrArg (fun z => min (idx z).toInt.toNat (33 - 1)) hs).trans ?_
    show min (idx (ix3 b n 0)).toInt.toNat 32 = i.val
    rw [h, toInt_small (by omega)]
    omega

end Cert.Loss

end
-- ==== Proof.Math.RefLap.lean ====
/- The reference's overlaps of the anchors with the boxes, and its matching. -/
module

public import proofs.«01_k».proof.Proof.Math.Wide
public import proofs.«01_k».proof.Proof.Math.Pick
public import proofs.«01_k».proof.Proof.Math.Totals

@[expose] public section

set_option maxRecDepth 16384

noncomputable section

namespace Cert.Loss

open Idealize.ShloMosaic Cert.ReferenceIdeal Cert.ReferenceIdeal.Gen Cert.ReferenceIdeal.Read

variable (x0 : (⟨S4x50000x80, .f32⟩ : BufTy).Contents (Elt Ideal)) (x1 x2 : (⟨S4x50000x4, .f32⟩ : BufTy).Contents (Elt Ideal))
variable (x3 : (⟨S4x32x4, .f32⟩ : BufTy).Contents (Elt Ideal)) (x4 : (⟨S4x32, .i32⟩ : BufTy).Contents (Elt Ideal))

/-- Anchor `n` of image `b` (or its predicted offsets), and the boxes of image `b`. -/
def anchorAt (x2 : (⟨S4x50000x4, .f32⟩ : BufTy).Contents (Elt Ideal)) (b : Fin 4) (n : Fin 50000) : Four := fun k => x2 (ix3 b n k)
def boxesAt (x3 : (⟨S4x32x4, .f32⟩ : BufTy).Contents (Elt Ideal)) (b : Fin 4) (i : Fin 32) : Four := fun k => x3 (ix3 b i k)

/-- Every anchor has a size, and no box a negative one. -/
structure SaneBoxes : Prop where
  anchor : ∀ b n, Sized (1 / 200) (anchorAt x2 b n)
  box : ∀ b i, Sized 0 (boxesAt x3 b i)

/-- The overlaps of anchor `n` of image `b` with its boxes. -/
abbrev lapsAt (b : Fin 4) (n : Fin 50000) : Fin 32 → EReal := lapsOf (boxesAt x3 b) (anchorAt x2 b n)

theorem halved (x : EReal) : Ideal.div x (Ideal.ofBits .f32 0x40000000#32) = x * half := by
  rw [lit_two]
  exact Ideal.div_coe (by norm_num) x

theorem anchor_sides (b : Fin 4) (n : Fin 50000) :
    val_main_v10 (F := Ideal) x2 (ix3 b n 0) = left (anchorAt x2 b n) ∧ val_main_v10 (F := Ideal) x2 (ix3 b n 1) = top (anchorAt x2 b n)
    ∧ val_main_v10 (F := Ideal) x2 (ix3 b n 2) = right (anchorAt x2 b n) ∧ val_main_v10 (F := Ideal) x2 (ix3 b n 3) = bottom (anchorAt x2 b n) := by
  refine ⟨?_, ?_, ?_, ?_⟩ <;>
  · pointwise [val_main_v10, val_main_v4, val_main_v9, val_main_v3, val_main_v8, val_main_v0, val_main_v1, val_main_v2, val_main_v5, val_main_v6, val_main_v7, val_main_cst, val_main_cst_0]
    simp [halved]
    rfl

theorem box_sides (b : Fin 4) (n : Fin 32) :
    val_main_v21 (F := Ideal) x3 (ix3 b n 0) = left (boxesAt x3 b n) ∧ val_main_v21 (F := Ideal) x3 (ix3 b n 1) = top (boxesAt x3 b n)
    ∧ val_main_v21 (F := Ideal) x3 (ix3 b n 2) = right (boxesAt x3 b n) ∧ val_main_v21 (F := Ideal) x3 (ix3 b n 3) = bottom (boxesAt x3 b n) := by
  refine ⟨?_, ?_, ?_, ?_⟩ <;>
  · pointwise [val_main_v21, val_main_v20, val_main_v19, val_main_v18, val_main_v17, val_main_v16, val_main_v15, val_main_v14, val_main_v13, val_main_v12, val_main_v11, val_main_cst_1, val_main_cst_2]
    simp [halved]
    rfl

theorem zero_literal : (id (constant (F := Ideal) S_ .f32 0#32) ix0 : EReal) = 0 := Ideal.ofBits_zero_f32

theorem lap_at (hs : SaneBoxes x2 x3) (b : Fin 4) (n : Fin 50000) (t : Fin 32) :
    val_main_v73 (F := Ideal) x2 x3 (ix3 b n t) = lapsAt x2 x3 b n t := by
  obtain ⟨a0, a1, a2, a3⟩ := anchor_sides x2 b n
  obtain ⟨t0, t1, t2, t3⟩ := box_sides x3 b t
  generalize hA : val_main_v10 (F := Ideal) x2 = A at a0 a1 a2 a3
  generalize hB : val_main_v21 (F := Ideal) x3 = B at t0 t1 t2 t3
  pointwise [val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_cst_3, val_main_call0_v0, val_main_call0_v1, val_main_cst_4, hA, hB]
  rw [a0, a1, a2, a3, t0, t1, t2, t3, zero_literal]
  have h := wide (hs.anchor b n) (hs.box b t)
  unfold lapsAt lapsOf overlap
  rw [← max_eq_left h]
  rfl

theorem value_at (hs : SaneBoxes x2 x3) (b : Fin 4) (n : Fin 50000) :
    val_main_values (F := Ideal) x2 x3 (ix3 b n 0) = peak (lapsAt x2 x3 b n) := by
  unfold val_main_values
  rw [top_value]
  exact congrArg peak (funext fun t => lap_at x2 x3 hs b n t)

theorem place_at (hs : SaneBoxes x2 x3) (b : Fin 4) (n : Fin 50000) :
    val_main_indices (F := Ideal) x2 x3 (ix3 b n 0) = BitVec.ofNat 32 (first (lapsAt x2 x3 b n)).val := by
  unfold val_main_indices
  rw [top_place]
  exact congrArg (fun f => BitVec.ofNat 32 (first f).val) (funext fun t => lap_at x2 x3 hs b n t)

end Cert.Loss

end
-- ==== Proof.Math.RefMatch.lean ====
/- The reference's matching of the anchors with the boxes. -/
module

public import proofs.«01_k».proof.Proof.Math.RefLap

@[expose] public section

set_option maxRecDepth 16384

noncomputable section

namespace Cert.Loss

open Idealize.ShloMosaic Cert.ReferenceIdeal Cert.ReferenceIdeal.Gen Cert.ReferenceIdeal.Read

variable (x0 : (⟨S4x50000x80, .f32⟩ : BufTy).Contents (Elt Ideal)) (x1 x2 : (⟨S4x50000x4, .f32⟩ : BufTy).Contents (Elt Ideal))
variable (x3 : (⟨S4x32x4, .f32⟩ : BufTy).Contents (Elt Ideal)) (x4 : (⟨S4x32, .i32⟩ : BufTy).Contents (Elt Ideal))

/-- What an anchor is matched with: the number of a box, or `-1` or `-2` for none. -/
def matchOf (f : Fin 32 → EReal) : BitVec 32 := by
  classical exact if Hit f then BitVec.ofNat 32 (first f).val else if peak f < lowBar then 4294967295#32 else 4294967294#32

theorem match_at (hs : SaneBoxes x2 x3) (b : Fin 4) (n : Fin 50000) :
    val_main_v82 (F := Ideal) x2 x3 (ix2 b n) = matchOf (lapsAt x2 x3 b n) := by
  have hv := value_at x2 x3 hs b n
  have hp := place_at x2 x3 hs b n
  generalize hA : val_main_values (F := Ideal) x2 x3 = A at hv
  generalize hB : val_main_indices (F := Ideal) x2 x3 = B at hp
  pointwise [val_main_v82, val_main_v81, val_main_v80, val_main_cst_7, val_main_v79, val_main_call1_v3, val_main_call1_v2,
    val_main_call1_v1, val_main_call1_v0, val_main_c_6, val_main_v78, val_main_v77, val_main_cst_5, val_main_v76, val_main_c,
    val_main_v75, val_main_v74, hA, hB]
  rw [hv, hp, lit_half, show id (constantI S_ 32 4294967295#32) ix0 = 4294967295#32 from rfl]
  unfold matchOf
  congr

end Cert.Loss

end
-- ==== Proof.Math.RefBox.lean ====
/- The reference's box loss. -/
module

public import proofs.«01_k».proof.Proof.Math.RefMatch

@[expose] public section

set_option maxRecDepth 16384

noncomputable section

namespace Cert.Loss

open Idealize.ShloMosaic Cert.ReferenceIdeal Cert.ReferenceIdeal.Gen Cert.ReferenceIdeal.Read

variable (x0 : (⟨S4x50000x80, .f32⟩ : BufTy).Contents (Elt Ideal)) (x1 x2 : (⟨S4x50000x4, .f32⟩ : BufTy).Contents (Elt Ideal))
variable (x3 : (⟨S4x32x4, .f32⟩ : BufTy).Contents (Elt Ideal)) (x4 : (⟨S4x32, .i32⟩ : BufTy).Contents (Elt Ideal))

theorem match_hit {f : Fin 32 → EReal} (h : Hit f) : matchOf f = BitVec.ofNat 32 (first f).val := by
  unfold matchOf
  rw [if_pos h]

theorem match_flag (f : Fin 32 → EReal) [Decidable (Hit f)] : IntOp.cmpi .sge (matchOf f) 0#32 = BitVec.ofBool (decide (Hit f)) := by
  by_cases h : Hit f
  · rw [match_hit h]
    simp only [h, decide_true]
    have := (first f).isLt
    unfold IntOp.cmpi
    simp only
    congr 1
    rw [BitVec.sle_eq_decide, toInt_small (n := (first f).val) (by omega)]
    simp only [BitVec.toInt_zero, decide_eq_true_eq]
    omega
  · simp only [h, decide_false]
    unfold matchOf
    rw [if_neg h]
    split <;> decide

open Classical in
theorem flag_at (hs : SaneBoxes x2 x3) (b : Fin 4) (n : Fin 50000) :
    val_main_v84 (F := Ideal) x2 x3 (ix2 b n) = BitVec.ofBool (decide (Hit (lapsAt x2 x3 b n))) := by
  have hm := match_at x2 x3 hs b n
  generalize hA : val_main_v82 (F := Ideal) x2 x3 = A at hm
  pointwise [val_main_v84, val_main_v83, val_main_c_8, hA]
  rw [hm]
  exact match_flag _

theorem hit_number (f : Fin 32 → EReal) [Decidable (Hit f)] :
    (FloatOps.uitofp (F := Ideal) .f32 (BitVec.ofBool (decide (Hit f))) : EReal) = (hitN f : EReal) := by
  unfold hitN
  by_cases h : Hit f
  · simp only [h, decide_true, if_true]
    show ((((BitVec.ofBool true).toNat : ℝ)) : EReal) = _
    simp
  · simp only [h, decide_false, if_false]
    show ((((BitVec.ofBool false).toNat : ℝ)) : EReal) = _
    simp

theorem number_at (hs : SaneBoxes x2 x3) (b : Fin 4) (n : Fin 50000) :
    val_main_v85 (F := Ideal) x2 x3 (ix2 b n) = (hitN (lapsAt x2 x3 b n) : EReal) := by
  classical
  have hm := flag_at x2 x3 hs b n
  generalize hA : val_main_v84 (F := Ideal) x2 x3 = A at hm
  pointwise [val_main_v85, hA]
  rw [hm]
  exact hit_number _

theorem hits_at (hs : SaneBoxes x2 x3) (b : Fin 4) :
    val_main_v86 (F := Ideal) x2 x3 (ix1 b) = hitTotal (anchorAt x2 b) (boxesAt x3 b) := by
  have hm := number_at x2 x3 hs b
  generalize hA : val_main_v85 (F := Ideal) x2 x3 = A at hm
  pointwise [val_main_v86, val_main_cst_9, hA]
  exact Finset.sum_congr rfl fun n _ => hm n

open Classical in
/-- The number the reference looks a box up by: the matched box's, or the first box's for an anchor matched with none. -/
def slotOf (f : Fin 32 → EReal) : Fin 32 := if Hit f then first f else 0

theorem slot_hit {f : Fin 32 → EReal} (h : Hit f) : slotOf f = first f := by
  unfold slotOf
  rw [if_pos h]

theorem slot_word (f : Fin 32 → EReal) [Decidable (Hit f)] :
    (if (BitVec.ofBool (decide (Hit f))) = 1#1 then matchOf f else 0#32) = BitVec.ofNat 32 (slotOf f).val := by
  by_cases h : Hit f
  · simp [h, match_hit h, slot_hit h]
  · simp [h, slotOf]

theorem slt_small {n : ℕ} (h : n < 2 ^ 31) : IntOp.cmpi .slt (BitVec.ofNat 32 n) 0#32 = 0#1 := by
  unfold IntOp.cmpi
  simp only
  rw [BitVec.slt_eq_decide, toInt_small h, BitVec.toInt_zero, decide_eq_false (by omega)]
  rfl

theorem slot_at (hs : SaneBoxes x2 x3) (b : Fin 4) (n : Fin 50000) :
    val_main_v93 (F := Ideal) x2 x3 (ix3 b n 0) = BitVec.ofNat 32 (slotOf (lapsAt x2 x3 b n)).val := by
  classical
  have hm := match_at x2 x3 hs b n
  have hf := flag_at x2 x3 hs b n
  generalize hB : val_main_v84 (F := Ideal) x2 x3 = B at hf
  generalize hA : val_main_v82 (F := Ideal) x2 x3 = A at hm
  pointwise [val_main_v93, val_main_v92, val_main_v91, val_main_v90, val_main_v89, val_main_v88, val_main_v87, val_main_call3_v0,
    val_main_call3_v1, val_main_call3_v2, val_main_c_10, val_main_c_11, val_main_c_12, hA, hB]
  rw [hm, hf, show (id (constantI S_ 32 0#32) ix0) = 0#32 from rfl]
  have hw : Scalar.select (BitVec.ofBool (decide (Hit (lapsAt x2 x3 b n)))) (matchOf (lapsAt x2 x3 b n)) 0#32
      = BitVec.ofNat 32 (slotOf (lapsAt x2 x3 b n)).val := slot_word _
  have hl := (slotOf (lapsAt x2 x3 b n)).isLt
  rw [hw, slt_small (by omega)]
  rfl

theorem matched_at (hs : SaneBoxes x2 x3) (b : Fin 4) (n : Fin 50000) (k : Fin 4) :
    val_main_v94 (F := Ideal) x2 x3 (ix3 b n k) = boxesAt x3 b (slotOf (lapsAt x2 x3 b n)) k := by
  unfold val_main_v94
  exact gather_box b n x3 _ k _ (slot_at x2 x3 hs b n)

/-- Dividing by a reciprocal is multiplying. -/
theorem div_reciprocal (x : EReal) {r : ℝ} (hr : r ≠ 0) : Ideal.div x (Ideal.div 1 (r : EReal)) = x * (r : EReal) := by
  rw [Ideal.div_coe hr, one_mul, Ideal.div_coe (one_div_ne_zero hr), one_div_one_div]

theorem offsets_at (hs : SaneBoxes x2 x3) (b : Fin 4) (n : Fin 50000) (k : Fin 4) :
    val_main_v112 (F := Ideal) x2 x3 (ix3 b n k) = offsets (anchorAt x2 b n) (boxesAt x3 b (slotOf (lapsAt x2 x3 b n))) k := by
  have hm := matched_at x2 x3 hs b n
  generalize hA : val_main_v94 (F := Ideal) x2 x3 = A at hm
  pointwise [val_main_v112, val_main_v111, val_main_v110, val_main_v109, val_main_v108, val_main_v107, val_main_v106, val_main_v105, val_main_v104, val_main_v103,
    val_main_v102, val_main_v101, val_main_v100, val_main_v99, val_main_v98, val_main_v97, val_main_v96, val_main_v95,
    val_main_cst_13, val_main_cst_14, val_main_cst_15, val_main_cst_16, val_main_cst_17, hA]
  rw [lit_ten, lit_five]
  unfold offsets
  match k with
  | 0 =>
    refine (dif_pos (show ((0 : Fin 4).val < 2) by decide)).trans (Eq.trans ?_ (if_pos (show ((0 : Fin 4).val < 2) by decide)).symm)
    exact (div_reciprocal _ (by norm_num)).trans (congrArg (fun z : EReal => Ideal.div (z - x2 (ix3 b n 0)) (x2 (ix3 b n 2)) * ((10 : ℝ) : EReal)) (hm 0))
  | 1 =>
    refine (dif_pos (show ((1 : Fin 4).val < 2) by decide)).trans (Eq.trans ?_ (if_pos (show ((1 : Fin 4).val < 2) by decide)).symm)
    exact (div_reciprocal _ (by norm_num)).trans (congrArg (fun z : EReal => Ideal.div (z - x2 (ix3 b n 1)) (x2 (ix3 b n 3)) * ((10 : ℝ) : EReal)) (hm 1))
  | 2 =>
    refine (dif_neg (show ¬ ((2 : Fin 4).val < 2) by decide)).trans (Eq.trans ?_ (if_neg (show ¬ ((2 : Fin 4).val < 2) by decide)).symm)
    exact (div_reciprocal _ (by norm_num)).trans (congrArg (fun z : EReal => Ideal.log (Ideal.div z (x2 (ix3 b n 2)) + tiny) * ((5 : ℝ) : EReal)) (hm 2))
  | 3 =>
    refine (dif_neg (show ¬ ((3 : Fin 4).val < 2) by decide)).trans (Eq.trans ?_ (if_neg (show ¬ ((3 : Fin 4).val < 2) by decide)).symm)
    exact (div_reciprocal _ (by norm_num)).trans (congrArg (fun z : EReal => Ideal.log (Ideal.div z (x2 (ix3 b n 3)) + tiny) * ((5 : ℝ) : EReal)) (hm 3))

theorem smooth_at (hs : SaneBoxes x2 x3) (b : Fin 4) (n : Fin 50000) (k : Fin 4) :
    val_main_v126 (F := Ideal) x1 x2 x3 (ix3 b n k)
      = smooth (x1 (ix3 b n k)) (offsets (anchorAt x2 b n) (boxesAt x3 b (slotOf (lapsAt x2 x3 b n))) k) * (hitN (lapsAt x2 x3 b n) : EReal) := by
  classical
  have hm := offsets_at x2 x3 hs b n k
  have hf := flag_at x2 x3 hs b n
  generalize hB : val_main_v84 (F := Ideal) x2 x3 = B at hf
  generalize hA : val_main_v112 (F := Ideal) x2 x3 = A at hm
  pointwise [val_main_v126, val_main_v125, val_main_v124, val_main_v123, val_main_v122, val_main_v121, val_main_v120, val_main_v119, val_main_v118, val_main_v117,
    val_main_v116, val_main_v115, val_main_v114, val_main_v113, val_main_cst_18, val_main_cst_19, val_main_cst_20, hA, hB]
  rw [hm, hf, lit_half, smooth_if]
  exact congrArg (_ * ·) (hit_number _)

theorem anchor_loss (p a : Four) (t : Fin 32 → Four) :
    ∑ k, smooth (p k) (offsets a (t (slotOf (lapsOf t a))) k) * (hitN (lapsOf t a) : EReal) = boxLoss p a t := by
  unfold boxLoss
  by_cases h : Hit (lapsOf t a)
  · have h1 : hitN (lapsOf t a) = 1 := by unfold hitN; rw [if_pos h]
    have h1' : hitN (fun i => overlap a (t i)) = 1 := h1
    rw [slot_hit h, h1, h1']
    simp only [EReal.coe_one, mul_one]
    rfl
  · have h1 : hitN (lapsOf t a) = 0 := by unfold hitN; rw [if_neg h]
    have h1' : hitN (fun i => overlap a (t i)) = 0 := h1
    rw [h1, h1']
    simp

/-- An anchor's predicted offsets. -/
abbrev predAt (b : Fin 4) (n : Fin 50000) : Four := fun k => x1 (ix3 b n k)

theorem box_sum_at (hs : SaneBoxes x2 x3) (b : Fin 4) :
    val_main_v130 (F := Ideal) x1 x2 x3 (ix1 b) = boxTotal (predAt x1 b) (anchorAt x2 b) (boxesAt x3 b) := by
  have hm := smooth_at x1 x2 x3 hs b
  generalize hA : val_main_v126 (F := Ideal) x1 x2 x3 = A at hm
  pointwise [val_main_v130, val_main_v129, val_main_cst_22, val_main_cst_23, hA]
  unfold boxTotal
  refine Finset.sum_congr rfl fun n _ => ?_
  rw [← anchor_loss]
  exact Finset.sum_congr rfl fun k _ => hm n k

theorem image_box_at (hs : SaneBoxes x2 x3) (b : Fin 4) :
    val_main_v136 (F := Ideal) x1 x2 x3 (ix1 b)
      = imageBox (hitTotal (anchorAt x2 b) (boxesAt x3 b)) (boxTotal (predAt x1 b) (anchorAt x2 b) (boxesAt x3 b)) := by
  have hm := box_sum_at x1 x2 x3 hs b
  have hh := hits_at x2 x3 hs b
  generalize hA : val_main_v130 (F := Ideal) x1 x2 x3 = A at hm
  generalize hB : val_main_v86 (F := Ideal) x2 x3 = B at hh
  pointwise [val_main_v136, val_main_call5_v0, val_main_call5_v1, val_main_v135, val_main_v134, val_main_v133, val_main_v132, val_main_v131, val_main_v128,
    val_main_v127, val_main_cst_21, val_main_cst_24, val_main_cst_25, val_main_cst_26, hA, hB]
  rw [hm, hh, zero_literal, lit_four]
  unfold imageBox
  congr

end Cert.Loss

end
-- ==== Proof.Math.RefClass.lean ====
/- The reference's classification loss. -/
module

public import proofs.«01_k».proof.Proof.Math.RefBox
public import proofs.«01_k».proof.Proof.Math.TileCls

@[expose] public section

set_option maxRecDepth 16384

noncomputable section

namespace Cert.Loss

open Idealize.ShloMosaic Cert.ReferenceIdeal Cert.ReferenceIdeal.Gen Cert.ReferenceIdeal.Read

variable (x0 : (⟨S4x50000x80, .f32⟩ : BufTy).Contents (Elt Ideal)) (x1 x2 : (⟨S4x50000x4, .f32⟩ : BufTy).Contents (Elt Ideal))
variable (x3 : (⟨S4x32x4, .f32⟩ : BufTy).Contents (Elt Ideal)) (x4 : (⟨S4x32, .i32⟩ : BufTy).Contents (Elt Ideal))

theorem word_succ {n : ℕ} : IntOp.addi (BitVec.ofNat 32 n) 1#32 = BitVec.ofNat 32 (n + 1) := by
  rw [BitVec.ofNat_add]
  rfl

theorem sge_small {n : ℕ} (h : n < 2 ^ 31) : IntOp.cmpi .sge (BitVec.ofNat 32 n) 0#32 = 1#1 := by
  unfold IntOp.cmpi
  simp only
  rw [BitVec.sle_eq_decide, toInt_small h, BitVec.toInt_zero, decide_eq_true (by omega)]
  rfl

/-- The place of an anchor's label in the list of labels that starts with the background's. -/
def rankOf (f : Fin 32 → EReal) : Fin 33 := by
  classical exact if Hit f then (first f).succ else 0

theorem rank_hit {f : Fin 32 → EReal} (h : Hit f) : rankOf f = (first f).succ := by
  unfold rankOf
  rw [if_pos h]

theorem rank_none {f : Fin 32 → EReal} (h : ¬ Hit f) : rankOf f = 0 := by
  unfold rankOf
  rw [if_neg h]

/-- What the reference does with the match plus one: counted or not, and where the label stands. -/
theorem used_word (f : Fin 32 → EReal) :
    (FloatOps.uitofp (F := Ideal) .f32 (IntOp.cmpi .sge (IntOp.addi (matchOf f) 1#32) 0#32) : EReal) = (usedN f : EReal)
      ∧ Scalar.select (IntOp.cmpi .sge (IntOp.addi (matchOf f) 1#32) 0#32) (IntOp.addi (matchOf f) 1#32) 0#32
        = BitVec.ofNat 32 (rankOf f).val := by
  have one : (FloatOps.uitofp (F := Ideal) .f32 1#1 : EReal) = ((1 : ℝ) : EReal) := by
    show (((((1#1 : BitVec 1).toNat : ℕ) : ℝ)) : EReal) = _
    simp
  have zero : (FloatOps.uitofp (F := Ideal) .f32 0#1 : EReal) = ((0 : ℝ) : EReal) := by
    show (((((0#1 : BitVec 1).toNat : ℕ) : ℝ)) : EReal) = _
    simp
  by_cases h : Hit f
  · have hl := (first f).isLt
    rw [match_hit h, word_succ, sge_small (by omega), one]
    unfold usedN
    rw [if_pos (Or.inl h), rank_hit h]
    exact ⟨rfl, rfl⟩
  · unfold matchOf usedN
    rw [rank_none h]
    by_cases hp : peak f < lowBar
    · rw [if_neg h, if_pos hp, if_pos (Or.inr hp),
        show IntOp.cmpi .sge (IntOp.addi 4294967295#32 1#32) 0#32 = 1#1 by decide, one]
      exact ⟨rfl, by decide⟩
    · rw [if_neg h, if_neg hp, if_neg (by tauto),
        show IntOp.cmpi .sge (IntOp.addi 4294967294#32 1#32) 0#32 = 0#1 by decide, zero]
      exact ⟨rfl, by decide⟩

theorem used_at (hs : SaneBoxes x2 x3) (b : Fin 4) (n : Fin 50000) :
    val_main_v161 (F := Ideal) x2 x3 (ix2 b n) = (usedN (lapsAt x2 x3 b n) : EReal) := by
  have hm := match_at x2 x3 hs b n
  generalize hA : val_main_v82 (F := Ideal) x2 x3 = A at hm
  pointwise [val_main_v161, val_main_v140, val_main_v139, val_main_v138, val_main_v137, val_main_c_27, val_main_c_28, hA]
  rw [hm]
  exact (used_word _).1

theorem rank_at (hs : SaneBoxes x2 x3) (b : Fin 4) (n : Fin 50000) :
    val_main_v150 (F := Ideal) x2 x3 (ix3 b n 0) = BitVec.ofNat 32 (rankOf (lapsAt x2 x3 b n)).val := by
  have hm := match_at x2 x3 hs b n
  generalize hA : val_main_v82 (F := Ideal) x2 x3 = A at hm
  pointwise [val_main_v150, val_main_v149, val_main_v148, val_main_v147, val_main_v146, val_main_v145, val_main_v144, val_main_call6_v0,
    val_main_call6_v1, val_main_call6_v2, val_main_v140, val_main_v139, val_main_v138, val_main_v137, val_main_c_27, val_main_c_28,
    val_main_c_30, val_main_c_31, val_main_c_32, hA]
  rw [hm, show (id (constantI S_ 32 0#32) ix0) = 0#32 from rfl]
  have hl := (rankOf (lapsAt x2 x3 b n)).isLt
  rw [(used_word _).2, slt_small (by omega)]
  rfl

/-- The label of the box an anchor is matched with, `0` for an anchor matched with none. -/
def nameOf (f : Fin 32 → EReal) (l : Fin 32 → BitVec 32) : BitVec 32 := by
  classical exact if Hit f then l (first f) else 0#32

/-- An image's labels. -/
abbrev labelsAt (b : Fin 4) : Fin 32 → BitVec 32 := fun i => x4 (ix2 b i)

theorem extended_none (b : Fin 4) : val_main_v143 (F := Ideal) x4 (ix2 b 0) = 0#32 := by
  pointwise [val_main_v143, val_main_v142, val_main_v141, val_main_c_29]

theorem extended_some (b : Fin 4) (i : Fin 32) : val_main_v143 (F := Ideal) x4 (ix2 b i.succ) = x4 (ix2 b i) := by
  pointwise [val_main_v143, val_main_v142, val_main_v141, val_main_c_29]
  exact dif_neg (by simp)

theorem name_at (hs : SaneBoxes x2 x3) (b : Fin 4) (n : Fin 50000) :
    val_main_v151 (F := Ideal) x2 x3 x4 (ix2 b n) = nameOf (lapsAt x2 x3 b n) (labelsAt x4 b) := by
  unfold val_main_v151
  refine (gather_label b n _ _ _ (rank_at x2 x3 hs b n)).trans ?_
  unfold nameOf
  by_cases h : Hit (lapsAt x2 x3 b n)
  · rw [rank_hit h, if_pos h]; exact extended_some x4 b _
  · rw [rank_none h, if_neg h]; exact extended_none x4 b

/-- The target of an anchor in a class, as a number. -/
def aimOf (f : Fin 32 → EReal) (l : Fin 32 → BitVec 32) (c : Fin 80) : ℝ := by
  classical exact if Hit f ∧ IsClass (l (first f)) c then 1 else 0

theorem one_number : (FloatOps.uitofp (F := Ideal) .f32 1#1 : EReal) = 1 := by
  show (((((1#1 : BitVec 1).toNat : ℕ) : ℝ)) : EReal) = _
  simp

theorem zero_number : (FloatOps.uitofp (F := Ideal) .f32 0#1 : EReal) = 0 := by
  show (((((0#1 : BitVec 1).toNat : ℕ) : ℝ)) : EReal) = _
  simp

/-- The reference's test of a label against a class. -/
theorem class_number (w : BitVec 32) (c : Fin 80) [Decidable (IsClass w c)] :
    (FloatOps.uitofp (F := Ideal) .f32 (IntOp.cmpi .eq (IntOp.subi w 1#32) (BitVec.ofNat 32 c.val)) : EReal)
        * FloatOps.uitofp (F := Ideal) .f32 (IntOp.cmpi .ne w 0#32)
      = ((if IsClass w c then 1 else 0 : ℝ) : EReal) := by
  have hc := c.isLt
  by_cases h : IsClass w c
  · rw [if_pos h]
    have hw : w = BitVec.ofNat 32 (c.val + 1) := h
    have h1 : IntOp.subi w 1#32 = BitVec.ofNat 32 c.val := by
      rw [hw, ← word_succ]
      exact BitVec.add_sub_cancel _ _
    have h2 : w ≠ 0#32 := by
      intro e
      have := word_inj (by omega) (by omega) (hw.symm.trans e)
      omega
    have e1 : IntOp.cmpi .eq (BitVec.ofNat 32 c.val) (BitVec.ofNat 32 c.val) = 1#1 := by
      unfold IntOp.cmpi
      simp
    have e2 : IntOp.cmpi .ne w 0#32 = 1#1 := by
      unfold IntOp.cmpi
      exact congrArg BitVec.ofBool (bne_iff_ne.mpr h2)
    rw [h1, e1, e2, one_number, one_mul, EReal.coe_one]
  · rw [if_neg h]
    have h1 : IntOp.subi w 1#32 ≠ BitVec.ofNat 32 c.val := by
      intro e
      apply h
      show w = BitVec.ofNat 32 (c.val + 1)
      rw [← word_succ, ← e]
      exact (BitVec.sub_add_cancel _ _).symm
    have e1 : IntOp.cmpi .eq (IntOp.subi w 1#32) (BitVec.ofNat 32 c.val) = 0#1 := by
      unfold IntOp.cmpi
      exact congrArg BitVec.ofBool (beq_eq_false_iff_ne.mpr h1)
    rw [e1, zero_number, zero_mul, EReal.coe_zero]

theorem aim_name (f : Fin 32 → EReal) (l : Fin 32 → BitVec 32) (c : Fin 80) [Decidable (IsClass (nameOf f l) c)] :
    (if IsClass (nameOf f l) c then 1 else 0 : ℝ) = aimOf f l c := by
  unfold aimOf
  by_cases h : Hit f
  · have e : nameOf f l = l (first f) := by unfold nameOf; rw [if_pos h]
    simp only [e, h, true_and]
  · have e : nameOf f l = 0#32 := by unfold nameOf; rw [if_neg h]
    have hn : ¬ IsClass (nameOf f l) c := by
      rw [e]
      intro k
      have hc := c.isLt
      have := word_inj (m := 0) (by omega) (by omega) (show BitVec.ofNat 32 0 = BitVec.ofNat 32 (c.val + 1) from k)
      omega
    rw [if_neg hn, if_neg (fun k : Hit f ∧ IsClass (l (first f)) c => h k.1)]

theorem aim_at (hs : SaneBoxes x2 x3) (b : Fin 4) (n : Fin 50000) (c : Fin 80) :
    val_main_v160 (F := Ideal) x2 x3 x4 (ix3 b n c) = (aimOf (lapsAt x2 x3 b n) (labelsAt x4 b) c : EReal) := by
  have hm := name_at x2 x3 x4 hs b n
  generalize hA : val_main_v151 (F := Ideal) x2 x3 x4 = A at hm
  pointwise [val_main_v160, val_main_v159, val_main_v158, val_main_v157, val_main_v156, val_main_v155, val_main_v154, val_main_call7_v0,
    val_main_call7_v1, val_main_call7_v2, val_main_call7_v3, val_main_call7_v4, val_main_call7_v5, val_main_v153, val_main_v152,
    val_main_c_33, val_main_c_34, hA]
  classical
  rw [hm, class_number, aim_name]

/-- The reference's formula for one class, over the reals. -/
theorem term_number (x t u : ℝ) :
    ((max (x : EReal) 0 - (x : EReal) * (t : EReal) + Ideal.log1p (Ideal.exp (-FloatOps.absf (F := Ideal) (φ := .f32) (x : EReal))))
        * (Ideal.pow ((t : EReal) * (1 - Ideal.div 1 (1 + Ideal.exp (-(x : EReal)))) + (1 - (t : EReal)) * Ideal.div 1 (1 + Ideal.exp (-(x : EReal)))) ((2 : ℝ) : EReal)
          * ((1 - (t : EReal)) * ((1 / 4 : ℝ) : EReal) + (t : EReal) * ((3 / 4 : ℝ) : EReal))) * (u : EReal) : EReal)
      = (((max x 0 - x * t + Real.log (1 + Real.exp (-|x|))) * ((t * (1 - sig x) + (1 - t) * sig x) ^ 2 * ((1 - t) * (1 / 4) + t * (3 / 4))) * u : ℝ) : EReal) := by
  have h1 : (FloatOps.absf (F := Ideal) (φ := .f32) (x : EReal) : EReal) = ((|x| : ℝ) : EReal) := coe_abs x
  have h2 : Ideal.log1p (Ideal.exp (-((|x| : ℝ) : EReal))) = ((Real.log (1 + Real.exp (-|x|)) : ℝ) : EReal) := by
    rw [← EReal.coe_neg, Ideal.exp_coe]
    unfold Ideal.log1p
    rw [Cert.KernelIdeal.Tile.real_one_add_exp, Cert.KernelIdeal.Tile.real_log]
  have h3 : Ideal.div 1 (1 + Ideal.exp (-(x : EReal))) = ((sig x : ℝ) : EReal) := by
    rw [← EReal.coe_neg, Ideal.exp_coe, Cert.KernelIdeal.Tile.real_one_add_exp, Cert.KernelIdeal.Tile.real_inv]
    unfold sig
    rw [one_div]
  have h4 : ∀ y : ℝ, (1 : EReal) - (y : EReal) = ((1 - y : ℝ) : EReal) := fun y => by rw [EReal.coe_sub, EReal.coe_one]
  rw [h1, h2, h3, Cert.KernelIdeal.Tile.real_max, h4, h4]
  simp only [← EReal.coe_mul, ← EReal.coe_add, ← EReal.coe_sub]
  have h5 : ∀ y : ℝ, Ideal.pow (y : EReal) ((2 : ℝ) : EReal) = ((y ^ 2 : ℝ) : EReal) := fun y =>
    (Ideal.pow_coe_coe y 2).trans (congrArg _ (Real.rpow_two y))
  rw [h5]
  simp only [← EReal.coe_mul]

theorem term_loss (f : Fin 32 → EReal) (l : Fin 32 → BitVec 32) (x : ℝ) (c : Fin 80) :
    (max x 0 - x * aimOf f l c + Real.log (1 + Real.exp (-|x|)))
        * ((aimOf f l c * (1 - sig x) + (1 - aimOf f l c) * sig x) ^ 2 * ((1 - aimOf f l c) * (1 / 4) + aimOf f l c * (3 / 4))) * usedN f
      = classLoss f l x c := by
  unfold classLoss aimOf present absent softplus
  split_ifs <;> ring

theorem term_at (hs : SaneBoxes x2 x3) (b : Fin 4) (n : Fin 50000) (c : Fin 80) (x : ℝ) (hx : x0 (ix3 b n c) = (x : EReal)) :
    val_main_v197 (F := Ideal) x0 x2 x3 x4 (ix3 b n c) = (classLoss (lapsAt x2 x3 b n) (labelsAt x4 b) x c : EReal) := by
  have ht := aim_at x2 x3 x4 hs b n c
  have hu := used_at x2 x3 hs b n
  generalize hA : val_main_v160 (F := Ideal) x2 x3 x4 = A at ht
  generalize hB : val_main_v161 (F := Ideal) x2 x3 = B at hu
  pointwise [val_main_v197, val_main_v196, val_main_v195, val_main_v194, val_main_v193, val_main_v192, val_main_v191, val_main_v190, val_main_v189,
    val_main_v188, val_main_v187, val_main_v186, val_main_v185, val_main_v184, val_main_v183, val_main_v182, val_main_v181, val_main_v180,
    val_main_v179, val_main_v178, val_main_v177, val_main_v176, val_main_v175, val_main_v174, val_main_v173, val_main_v172, val_main_v171,
    val_main_v170, val_main_v169, val_main_v168, val_main_v167, val_main_v166, val_main_v165, val_main_v164, val_main_v163, val_main_v162,
    val_main_cst_35, val_main_cst_36, val_main_cst_37, val_main_cst_38, val_main_cst_39, val_main_cst_40, val_main_cst_41, val_main_cst_42,
    val_main_cst_43, hA, hB]
  rw [hx, ht, hu, lit_two, lit_quarter, lit_three_quarters]
  exact (term_number x _ _).trans (congrArg _ (term_loss _ _ x c))

theorem class_sum_at (hs : SaneBoxes x2 x3) (b : Fin 4) (X : Fin 50000 → Fin 80 → ℝ) (hX : ∀ n c, x0 (ix3 b n c) = (X n c : EReal)) :
    val_main_v199 (F := Ideal) x0 x2 x3 x4 (ix1 b) = classTotal (anchorAt x2 b) (boxesAt x3 b) (labelsAt x4 b) X := by
  have hm := fun n c => term_at x0 x2 x3 x4 hs b n c (X n c) (hX n c)
  generalize hA : val_main_v197 (F := Ideal) x0 x2 x3 x4 = A at hm
  pointwise [val_main_v199, val_main_v198, val_main_cst_44, val_main_cst_45, hA]
  unfold classTotal
  rw [coe_sum]
  refine Finset.sum_congr rfl fun n _ => ?_
  rw [coe_sum]
  exact Finset.sum_congr rfl fun c _ => hm n c

theorem image_class_at (hs : SaneBoxes x2 x3) (b : Fin 4) (X : Fin 50000 → Fin 80 → ℝ) (hX : ∀ n c, x0 (ix3 b n c) = (X n c : EReal)) :
    val_main_v202 (F := Ideal) x0 x2 x3 x4 (ix1 b)
      = imageClass (hitTotal (anchorAt x2 b) (boxesAt x3 b)) (classTotal (anchorAt x2 b) (boxesAt x3 b) (labelsAt x4 b) X) := by
  have hm := class_sum_at x0 x2 x3 x4 hs b X hX
  have hh := hits_at x2 x3 hs b
  generalize hA : val_main_v199 (F := Ideal) x0 x2 x3 x4 = A at hm
  generalize hB : val_main_v86 (F := Ideal) x2 x3 = B at hh
  pointwise [val_main_v202, val_main_v201, val_main_v200, val_main_cst_46, hA, hB]
  rw [hm, hh]
  rfl

theorem reference_class (hs : SaneBoxes x2 x3) (X : Fin 4 → Fin 50000 → Fin 80 → ℝ) (hX : ∀ b n c, x0 (ix3 b n c) = (X b n c : EReal)) :
    val_main_v209 (F := Ideal) x0 x1 x2 x3 x4 (ix1 0)
      = Ideal.div (∑ b, imageClass (hitTotal (anchorAt x2 b) (boxesAt x3 b)) (classTotal (anchorAt x2 b) (boxesAt x3 b) (labelsAt x4 b) (X b))) 4 := by
  have hm := fun b => image_class_at x0 x2 x3 x4 hs b (X b) (hX b)
  generalize hA : val_main_v202 (F := Ideal) x0 x2 x3 x4 = A at hm
  pointwise [val_main_v209, val_main_v208, val_main_v207, val_main_v204, val_main_v203, val_main_cst_47, val_main_cst_48, hA]
  rw [lit_four]
  exact congrArg (Ideal.div · 4) (Finset.sum_congr rfl fun b _ => hm b)

theorem reference_box (hs : SaneBoxes x2 x3) :
    val_main_v209 (F := Ideal) x0 x1 x2 x3 x4 (ix1 1)
      = Ideal.div (∑ b, imageBox (hitTotal (anchorAt x2 b) (boxesAt x3 b)) (boxTotal (predAt x1 b) (anchorAt x2 b) (boxesAt x3 b))) 4 := by
  have hm := fun b => image_box_at x1 x2 x3 hs b
  generalize hA : val_main_v136 (F := Ideal) x1 x2 x3 = A at hm
  pointwise [val_main_v209, val_main_v208, val_main_v207, val_main_v206, val_main_v205, val_main_cst_49, val_main_cst_50, hA]
  rw [lit_four]
  exact congrArg (Ideal.div · 4) (Finset.sum_congr rfl fun b _ => hm b)

end Cert.Loss

end
-- ==== Proof.Math.Sane.lean ====
/- What the precondition says of the arguments: the scores are reals, the anchors and the boxes are reals of decent size. -/
module

public import proofs.«01_k».proof.Proof.Math.RefLap
public import proofs.«01_k».proof.Proof.Gen.Pre_sane_boxes
public import Idealize.ShloMosaic.Lib.ReduceAll

@[expose] public section

noncomputable section

namespace Cert.Loss

open Idealize.ShloMosaic Cert.Pre_sane_boxes Cert.Pre_sane_boxes.Facts

/-- An array of flags that are all up, from the flag of them all. -/
theorem every {s : Shape} {axes : List (Fin s.rank)} (x : s.Idx → BitVec 1) (h : s.ReducesTo axes S_) (hu : 0 < S_.numel)
    (e : Host.reduce IntOp.andi x (constantI S_ 1 1#1) h hu ix0 = 1#1) (i : s.Idx) : x i = 1#1 :=
  Host.reduce_andi_eq_one x _ h hu ix0 e i (funext fun a => a.elim0)

theorem below (a b : EReal) (h : FloatOps.cmpf (F := Ideal) (φ := .f32) .olt a b = 1#1) : a < b := by
  by_contra hn
  have : (BitVec.ofBool (decide (a < b))) = 1#1 := h
  rw [decide_eq_false hn] at this
  exact absurd this (by decide)

theorem least (a b : EReal) (h : FloatOps.cmpf (F := Ideal) (φ := .f32) .oge a b = 1#1) : b ≤ a := by
  by_contra hn
  have : (BitVec.ofBool (decide (b ≤ a))) = 1#1 := h
  rw [decide_eq_false hn] at this
  exact absurd this (by decide)

variable (x0 : FVec Ideal S4x50000x80 .f32) (x1 x2 : FVec Ideal S4x50000x4 .f32) (x3 : FVec Ideal S4x32x4 .f32) (x4 : IVec S4x32 32)

theorem parts (h : Cert.Pre_sane_boxes.fn (F := Ideal) x0 x1 x2 x3 x4 = fun _ => 1#1) :
    (∀ i, max (x0 i : EReal) (-x0 i) < ⊤) ∧ (∀ i, max (x2 i : EReal) (-x2 i) < ⊤) ∧ (∀ i, max (x3 i : EReal) (-x3 i) < ⊤)
      ∧ (∀ (b : Fin 4) (n : Fin 50000) (k : Fin 2), ((10737418 / 2 ^ 30 : ℝ) : EReal) ≤ x2 (ix3 b n ⟨2 + k.val, by omega⟩))
      ∧ (∀ (b : Fin 4) (n : Fin 32) (k : Fin 2), (0 : EReal) ≤ x3 (ix3 b n ⟨2 + k.val, by omega⟩)) := by
  have h0 := congrFun h ix0
  unfold Cert.Pre_sane_boxes.fn Cert.Pre_sane_boxes.fn_part1 at h0
  obtain ⟨h1, e5⟩ := IntOp.andi_eq_one.1 h0
  obtain ⟨h2, e4⟩ := IntOp.andi_eq_one.1 h1
  obtain ⟨h3, e3⟩ := IntOp.andi_eq_one.1 h2
  obtain ⟨e1, e2⟩ := IntOp.andi_eq_one.1 h3
  refine ⟨fun i => ?_, fun i => ?_, fun i => ?_, fun b n k => ?_, fun b n k => ?_⟩
  · have := below _ _ (every _ _ _ e1 i)
    exact lt_of_lt_of_eq this lit_infinity
  · have := below _ _ (every _ _ _ e2 i)
    exact lt_of_lt_of_eq this lit_infinity
  · have := below _ _ (every _ _ _ e3 i)
    exact lt_of_lt_of_eq this lit_infinity
  · have := least _ _ (every _ _ _ e4 (ix3 b n k))
    refine le_of_eq_of_le lit_hundredth.symm (le_of_le_of_eq this ?_)
    pointwise []
  · have := least _ _ (every _ _ _ e5 (ix3 b n k))
    refine le_of_eq_of_le Ideal.ofBits_zero_f32.symm (le_of_le_of_eq this ?_)
    pointwise []

/-- The scores are reals. -/
theorem scores (h : Cert.Pre_sane_boxes.fn (F := Ideal) x0 x1 x2 x3 x4 = fun _ => 1#1) :
    ∃ X : Fin 4 → Fin 50000 → Fin 80 → ℝ, ∀ b n k, (x0 (ix3 b n k) : EReal) = (X b n k : EReal) := by
  have hx := fun i => real_of_abs_lt ((parts x0 x1 x2 x3 x4 h).1 i)
  choose r hr using hx
  exact ⟨fun b n k => r (ix3 b n k), fun b n k => hr _⟩

/-- The anchors and the boxes are of decent size. -/
theorem sane (h : Cert.Pre_sane_boxes.fn (F := Ideal) x0 x1 x2 x3 x4 = fun _ => 1#1) : SaneBoxes x2 x3 := by
  obtain ⟨-, h2, h3, h4, h5⟩ := parts x0 x1 x2 x3 x4 h
  refine ⟨fun b n => ?_, fun b i => ?_⟩
  · choose r hr using fun k => real_of_abs_lt (h2 (ix3 b n k))
    refine ⟨r, hr, ?_, ?_⟩
    · have := h4 b n 0
      have e : ((10737418 / 2 ^ 30 : ℝ) : EReal) ≤ (r 2 : EReal) := le_of_le_of_eq this (hr 2)
      have := EReal.coe_le_coe_iff.1 e
      norm_num at this ⊢
      linarith
    · have := h4 b n 1
      have e : ((10737418 / 2 ^ 30 : ℝ) : EReal) ≤ (r 3 : EReal) := le_of_le_of_eq this (hr 3)
      have := EReal.coe_le_coe_iff.1 e
      norm_num at this ⊢
      linarith
  · choose r hr using fun k => real_of_abs_lt (h3 (ix3 b i k))
    refine ⟨r, hr, ?_, ?_⟩
    · exact EReal.coe_nonneg.1 (le_of_le_of_eq (h5 b i 0) (hr 2))
    · exact EReal.coe_nonneg.1 (le_of_le_of_eq (h5 b i 1) (hr 3))

end Cert.Loss

end
-- ==== Proof.lean ====
/- The certificate of `Cert.Claim`: the frames of the three programs, the kernel's ideal copy, and that the kernel's two losses
   are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KFrame.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_sane_boxes
public import proofs.«01_k».proof.Proof.Body.Frame
public import proofs.«01_k».proof.Proof.Body.Value
public import proofs.«01_k».proof.Proof.Math.RefClass
public import proofs.«01_k».proof.Proof.Math.Sane
public import Idealize.ShloMosaic.Adequacy
public import Idealize.ShloMosaic.Init

@[expose] public section

set_option maxRecDepth 16384

noncomputable section

namespace Cert.Proof

open Idealize.ShloMosaic Idealize.SL.Sem Cert.Kernel

/-- The reference runs to its end and leaves its arguments as they were. -/
theorem reference_frame : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩) (Cert.ReferenceIdeal.Value.run m g)

/-- Two pairs of losses that agree in both places. -/
theorem two_losses (f g : Cert.KernelIdeal.S2.Idx → EReal) (h0 : f (ix1 0) = g (ix1 0)) (h1 : f (ix1 1) = g (ix1 1)) : f = g := by
  have hk : ∀ k : Fin 2, f (ix1 k) = g (ix1 k) := fun k => match k with
    | 0 => h0
    | 1 => h1
  funext i
  have hi : i = ix1 (n0 := 2) (i 0) := funext fun a => by fin_cases a; rfl
  rw [hi]
  exact hk _

/-- What the kernel leaves in its result is what the reference computes from the same arguments. -/
theorem same_losses (m : (ℓ : Loc Cert.KernelIdeal.nD Cert.KernelIdeal.τ Cert.KernelIdeal.sig) → Buf (Elt Ideal) ℓ)
    (hp : Cert.Pre_KernelIdeal_sane_boxes (hPre_sane_boxes := Cert.Pre_sane_boxes.Gen.facts) m) (c : Dev Cert.KernelIdeal.nD) :
    Cert.ReferenceIdeal.Read.val_main_v209 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = (Cert.KernelIdeal.Body.dats m 0 c).arrAt 5 Cert.KernelIdeal.cfg0.N := by
  have hs := Cert.Loss.sane _ _ _ _ _ (hp c)
  obtain ⟨X, hX⟩ := Cert.Loss.scores _ _ _ _ _ (hp c)
  exact two_losses _ _ ((Cert.Loss.reference_class _ _ _ _ _ hs X hX).trans (Cert.KernelIdeal.Body.result_class m c X hX).symm)
    ((Cert.Loss.reference_box _ _ _ _ _ hs).trans (Cert.KernelIdeal.Body.result_box m c).symm)

/-- The kernel's losses are the reference's. -/
theorem equal_losses : Cert.algebraic_KernelIdeal_ReferenceIdeal_pre_sane_boxes (hKernelIdeal := Cert.KernelIdeal.Gen.facts)
    (hReferenceIdeal := Cert.ReferenceIdeal.Gen.facts) (hPre_sane_boxes := Cert.Pre_sane_boxes.Gen.facts) := by
  intro m g m' g' hp ha
  refine ⟨fun c => (Cert.KernelIdeal.Body.dats m 0 c).arrAt 5 Cert.KernelIdeal.cfg0.N, ?_, ?_⟩
  · exact (θ_run _ _ _).mono (fun r h c => ⟨(h.1 c).1 5, h.2 c⟩)
      (θ_run_and (Cert.KernelIdeal.Body.run_main m g) (Cert.KernelIdeal.Body.unchanged m g))
  · refine (θ_run _ _ _).mono (fun r h c => ⟨?_, (h c).2⟩) (Cert.ReferenceIdeal.Value.run m' g')
    obtain ⟨a0, a1, a2, a3, a4⟩ := ha c
    refine (h c).1.trans ((Cert.ReferenceIdeal.Read.val_main_v209_eq (StableHlo.launchContents m' c)).trans ?_)
    refine Eq.trans ?_ (same_losses m hp c)
    rw [← a0, ← a1, ← a2, ← a3, ← a4]

theorem claim : Cert.Claim := ⟨Cert.Kernel.Gen.facts, Cert.KernelIdeal.Gen.facts, Cert.ReferenceIdeal.Gen.facts, Cert.Pre_sane_boxes.Gen.facts,
  fun m g _ => Cert.Kernel.Gen.frame m g, fun m g _ => Cert.KernelIdeal.Body.frame m g, fun m g _ => Cert.KernelIdeal.Body.frame m g,
  reference_frame, fun m g _ => reference_frame m g trivial, trivial, equal_losses⟩

end Cert.Proof

end
